-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_sine_and_cosine_pre_in_range [hKernelIdeal : Cert.KernelIdeal.Facts] [hPre_in_range : Cert.Pre_in_range.Facts] [hPost_near_sine_and_cosine : Cert.Post_near_sine_and_cosine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near_sine_and_cosine.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_near_sine_and_cosine : Cert.Post_near_sine_and_cosine.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_sine_and_cosine_pre_in_range (hKernelIdeal := hKernelIdeal) (hPre_in_range := hPre_in_range) (hPost_near_sine_and_cosine := hPost_near_sine_and_cosine)
-- ==== Post_near_sine_and_cosine.lean ====
abbrev S1048576 : Shape := ⟨1, ![1048576]⟩
abbrev S1048576x256 : Shape := ⟨2, ![1048576, 256]⟩
abbrev S128 : Shape := ⟨1, ![128]⟩
abbrev S_ : Shape := ⟨0, ![]⟩
abbrev S1048576x1 : Shape := ⟨2, ![1048576, 1]⟩
abbrev S1x128 : Shape := ⟨2, ![1, 128]⟩
abbrev S1048576x128 : Shape := ⟨2, ![1048576, 128]⟩
abbrev S1048576x128x1 : Shape := ⟨3, ![1048576, 128, 1]⟩
abbrev S1048576x128x2 : Shape := ⟨3, ![1048576, 128, 2]⟩

class Facts : Prop where
  bcast_S_S128 : S_.BroadcastsInDim S128 (![] : Fin 0 → Fin S128.rank)
  bcast_S1048576_S1048576x1_0 : S1048576.BroadcastsInDim S1048576x1 (![0] : Fin 1 → Fin S1048576x1.rank)
  bcast_S128_S1x128_1 : S128.BroadcastsInDim S1x128 (![1] : Fin 1 → Fin S1x128.rank)
  bcast_S1048576x1_S1048576x128_0_1 : S1048576x1.BroadcastsInDim S1048576x128 (![0, 1] : Fin 2 → Fin S1048576x128.rank)
  bcast_S1x128_S1048576x128_0_1 : S1x128.BroadcastsInDim S1048576x128 (![0, 1] : Fin 2 → Fin S1048576x128.rank)
  bcast_S1048576x128_S1048576x128x1_0_1 : S1048576x128.BroadcastsInDim S1048576x128x1 (![0, 1] : Fin 2 → Fin S1048576x128x1.rank)
  concatenates_S1048576x128x1_S1048576x128x1_S1048576x128x2_d2 : Shape.Concatenates [S1048576x128x1, S1048576x128x1] S1048576x128x2 2
  shapeCasts_S1048576x128x2_S1048576x256 : S1048576x128x2.ShapeCasts S1048576x256
  bcast_S_S1048576x256 : S_.BroadcastsInDim S1048576x256 (![] : Fin 0 → Fin S1048576x256.rank)

variable [Facts]

def fn_part1 {F : FTy → Type} [FloatOps F] (main_v19 : FVec F S1048576x256 .f32) (main_cst_2 : FVec F S_ .f32) : IVec S1048576x256 1 :=
  let main_v20 : FVec F S1048576x256 .f32 := broadcastInDim S1048576x256 ![] bcast_S_S1048576x256 main_cst_2
  let main_v21 : IVec S1048576x256 1 := cmpf .ole main_v19 main_v20
  main_v21

def fn {F : FTy → Type} [FloatOps F] (main_arg0 : FVec F S1048576 .f32) (main_arg1 : FVec F S1048576x256 .f32) : IVec S1048576x256 1 :=
  let main_v0 : FVec F S128 .f32 := sitofp .f32 (iotaInDim S128 32 0)
  let main_cst : FVec F S_ .f32 := constant S_ .f32 0xC0000000#32
  let main_v1 : FVec F S128 .f32 := broadcastInDim S128 ![] bcast_S_S128 main_cst
  let main_v2 : FVec F S128 .f32 := mulf main_v1 main_v0
  let main_cst_0 : FVec F S_ .f32 := constant S_ .f32 0x43800000#32
  let main_v3 : FVec F S128 .f32 := broadcastInDim S128 ![] bcast_S_S128 main_cst_0
  let main_v4 : FVec F S128 .f32 := Host.divf main_v2 main_v3
  let main_cst_1 : FVec F S_ .f32 := constant S_ .f32 0x461C4000#32
  let main_v5 : FVec F S128 .f32 := broadcastInDim S128 ![] bcast_S_S128 main_cst_1
  let main_v6 : FVec F S128 .f32 := Host.powf main_v5 main_v4
  let main_v7 : FVec F S1048576x1 .f32 := broadcastInDim S1048576x1 ![0] bcast_S1048576_S1048576x1_0 main_arg0
  let main_v8 : FVec F S1x128 .f32 := broadcastInDim S1x128 ![1] bcast_S128_S1x128_1 main_v6
  let main_v9 : FVec F S1048576x128 .f32 := broadcastInDim S1048576x128 ![0, 1] bcast_S1048576x1_S1048576x128_0_1 main_v7
  let main_v10 : FVec F S1048576x128 .f32 := broadcastInDim S1048576x128 ![0, 1] bcast_S1x128_S1048576x128_0_1 main_v8
  let main_v11 : FVec F S1048576x128 .f32 := mulf main_v9 main_v10
  let main_v12 : FVec F S1048576x128 .f32 := Host.sin main_v11
  let main_v13 : FVec F S1048576x128 .f32 := Host.cos main_v11
  let main_v14 : FVec F S1048576x128x1 .f32 := broadcastInDim S1048576x128x1 ![0, 1] bcast_S1048576x128_S1048576x128x1_0_1 main_v12
  let main_v15 : FVec F S1048576x128x1 .f32 := broadcastInDim S1048576x128x1 ![0, 1] bcast_S1048576x128_S1048576x128x1_0_1 main_v13
  let main_v16 : FVec F S1048576x128x2 .f32 := (fun a b => concatenate S1048576x128x2 2 [⟨S1048576x128x1, a⟩, ⟨S1048576x128x1, b⟩] concatenates_S1048576x128x1_S1048576x128x1_S1048576x128x2_d2) main_v14 main_v15
  let main_v17 : FVec F S1048576x256 .f32 := shapeCast S1048576x256 main_v16 shapeCasts_S1048576x128x2_S1048576x256
  let main_v18 : FVec F S1048576x256 .f32 := subf main_arg1 main_v17
  let main_v19 : FVec F S1048576x256 .f32 := Host.absf main_v18
  let main_cst_2 : FVec F S_ .f32 := constant S_ .f32 0x3C03126F#32
  fn_part1 (F := F) main_v19 main_cst_2
-- ==== Pre_in_range.lean ====
abbrev S1048576 : Shape := ⟨1, ![1048576]⟩
abbrev S_ : Shape := ⟨0, ![]⟩

class Facts : Prop where
  bcast_S_S1048576 : S_.BroadcastsInDim S1048576 (![] : Fin 0 → Fin S1048576.rank)

variable [Facts]

def fn {F : FTy → Type} [FloatOps F] (main_arg0 : FVec F S1048576 .f32) : IVec S1048576 1 :=
  let main_v0 : FVec F S1048576 .f32 := Host.absf main_arg0
  let main_cst : FVec F S_ .f32 := constant S_ .f32 0x447A0000#32
  let main_v1 : FVec F S1048576 .f32 := broadcastInDim S1048576 ![] bcast_S_S1048576 main_cst
  let main_v2 : IVec S1048576 1 := cmpf .ole main_v0 main_v1
  main_v2
-- ==== Kernel.lean ====
abbrev S1048576 : Shape := ⟨1, ![1048576]⟩
abbrev S1x256 : Shape := ⟨2, ![1, 256]⟩
abbrev S128x64x128 : Shape := ⟨3, ![128, 64, 128]⟩
abbrev S128x128x64 : Shape := ⟨3, ![128, 128, 64]⟩
abbrev S1048576x256 : Shape := ⟨2, ![1048576, 256]⟩
abbrev S1x128x64 : Shape := ⟨3, ![1, 128, 64]⟩
abbrev S8192x256 : Shape := ⟨2, ![8192, 256]⟩
abbrev S1x128x1 : Shape := ⟨3, ![1, 128, 1]⟩
abbrev S128x1 : Shape := ⟨2, ![128, 1]⟩
abbrev S128x256 : Shape := ⟨2, ![128, 256]⟩

abbrev nBuf : Space → Nat
  | .hbm => 6
  | .vmem => 6
  | .smem => 0
  | _ => 0

abbrev bufTy : (tb : Table) → Fin (tcTables nBuf tb) → BufTy
  | .hbm, ⟨0, _⟩ => ⟨S1048576, .f32⟩
  | .hbm, ⟨1, _⟩ => ⟨S1x256, .f32⟩
  | .hbm, ⟨2, _⟩ => ⟨S1x256, .f32⟩
  | .hbm, ⟨3, _⟩ => ⟨S128x64x128, .f32⟩
  | .hbm, ⟨4, _⟩ => ⟨S128x128x64, .f32⟩
  | .hbm, ⟨5, _⟩ => ⟨S1048576x256, .f32⟩
  | .local _ .vmem, ⟨0, _⟩ => ⟨S1x128x64, .f32⟩
  | .local _ .vmem, ⟨1, _⟩ => ⟨S1x128x64, .f32⟩
  | .local _ .vmem, ⟨2, _⟩ => ⟨S1x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1048576 : Shape := ⟨1, ![1048576]⟩
abbrev S128 : Shape := ⟨1, ![128]⟩
abbrev S1x128 : Shape := ⟨2, ![1, 128]⟩
abbrev S1048576x1 : Shape := ⟨2, ![1048576, 1]⟩
abbrev S1048576x128 : Shape := ⟨2, ![1048576, 128]⟩
abbrev S_ : Shape := ⟨0, ![]⟩
abbrev S1048576x128x1 : Shape := ⟨3, ![1048576, 128, 1]⟩
abbrev S1048576x128x2 : Shape := ⟨3, ![1048576, 128, 2]⟩
abbrev S1048576x256 : Shape := ⟨2, ![1048576, 256]⟩

abbrev nBuf : Space → Nat
  | .hbm => 54
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S128, .f32⟩
  | .hbm, ⟨2, _⟩ => ⟨S1x128, .f32⟩
  | .hbm, ⟨3, _⟩ => ⟨S1048576x1, .f32⟩
  | .hbm, ⟨4, _⟩ => ⟨S1048576x128, .f32⟩
  | .hbm, ⟨5, _⟩ => ⟨S1048576x128, .f32⟩
  | .hbm, ⟨6, _⟩ => ⟨S1048576x128, .f32⟩
  | .hbm, ⟨7, _⟩ => ⟨S1048576x128, .f32⟩
  | .hbm, ⟨8, _⟩ => ⟨S1048576x128, .i32⟩
  | .hbm, ⟨9, _⟩ => ⟨S1048576x128, .f32⟩
  | .hbm, ⟨10, _⟩ => ⟨S1048576x128, .f32⟩
  | .hbm, ⟨11, _⟩ => ⟨S1048576x128, .f32⟩
  | .hbm, ⟨12, _⟩ => ⟨S_, .f32⟩
  | .hbm, ⟨13, _⟩ => ⟨S1048576x128, .f32⟩
  | .hbm, ⟨14, _⟩ => ⟨S1048576x128, .f32⟩
  | .hbm, ⟨15, _⟩ => ⟨S_, .f32⟩
  | .hbm, ⟨16, _⟩ => ⟨S1048576x128, .f32⟩
  | .hbm, ⟨17, _⟩ => ⟨S1048576x128, .f32⟩
  | .hbm, ⟨18, _⟩ => ⟨S1048576x128, .f32⟩
  | .hbm, ⟨19, _⟩ => ⟨S_, .f32⟩
  | .hbm, ⟨20, _⟩ => ⟨S1048576x128, .f32⟩
  | .hbm, ⟨21, _⟩ => ⟨S1048576x128, .f32⟩
  | .hbm, ⟨22, _⟩ => ⟨S1048576x128, .f32⟩
  | .hbm, ⟨23, _⟩ => ⟨S_, .f32⟩
  | .hbm, ⟨24, _⟩ => ⟨S1048576x128, .f32⟩
  | .hbm, ⟨25, _⟩ => ⟨S1048576x128, .f32⟩
  | .hbm, ⟨26, _⟩ => ⟨S1048576x128, .f32⟩
  | .hbm, ⟨27, _⟩ => ⟨S_, .f32⟩
  | .hbm, ⟨28, _⟩ => ⟨S1048576x128, .f32⟩
  | .hbm, ⟨29, _⟩ => ⟨S1048576x128, .f32⟩
  | .hbm, ⟨30, _⟩ => ⟨S1048576x128, .f32⟩
  | .hbm, ⟨31, _⟩ => ⟨S1048576x128, .i32⟩
  | .hbm, ⟨32, _⟩ => ⟨S1048576x128, .f32⟩
  | .hbm, ⟨33, _⟩ => ⟨S1048576x128, .f32⟩
  | .hbm, ⟨34, _⟩ => ⟨S1048576x128, .f32⟩
  | .hbm, ⟨35, _⟩ => ⟨S_, .f32⟩
  | .hbm, ⟨36, _⟩ => ⟨S1048576x128, .f32⟩
  | .hbm, ⟨37, _⟩ => ⟨S1048576x128, .f32⟩
  | .hbm, ⟨38, _⟩ => ⟨S_, .f32⟩
  | .hbm, ⟨39, _⟩ => ⟨S1048576x128, .f32⟩
  | .hbm, ⟨40, _⟩ => ⟨S1048576x128, .f32⟩
  | .hbm, ⟨41, _⟩ => ⟨S1048576x128, .f32⟩
  | .hbm, ⟨42, _⟩ => ⟨S_, .f32⟩
  | .hbm, ⟨43, _⟩ => ⟨S1048576x128, .f32⟩
  | .hbm, ⟨44, _⟩ => ⟨S1048576x128, .f32⟩
  | .hbm, ⟨45, _⟩ => ⟨S1048576x128, .f32⟩
  | .hbm, ⟨46, _⟩ => ⟨S_, .f32⟩
  | .hbm, ⟨47, _⟩ => ⟨S1048576x128, .f32⟩
  | .hbm, ⟨48, _⟩ => ⟨S1048576x128, .f32⟩
  | .hbm, ⟨49, _⟩ => ⟨S1048576x128, .f32⟩
  | .hbm, ⟨50, _⟩ => ⟨S1048576x128x1, .f32⟩
  | .hbm, ⟨51, _⟩ => ⟨S1048576x128x1, .f32⟩
  | .hbm, ⟨52, _⟩ => ⟨S1048576x128x2, .f32⟩
  | .hbm, ⟨53, _⟩ => ⟨S1048576x256, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Block.lean ====
/-
  What the kernel's body leaves in its output block: 64 stores of 128 rows, each the same function of one column of
  the block of arguments and of the two tables, so the whole block is one function of its index.
-/
module

public import proofs.«01_k».proof.Proof.Gen.KernelIdeal.Value
public import Idealize.ShloMosaic.Lib.Pipeline.Value
public import Idealize.ShloMosaic.Lib.Pipeline.ValueKit
public import Idealize.ShloMosaic.Lib.ValueIdx

@[expose] public section

set_option maxRecDepth 16384

noncomputable section

open Idealize.ShloMosaic Idealize.ShloMosaic.TcCoe Idealize.SL.Sem

namespace Cert.KernelIdeal.RefValue

open Cert.KernelIdeal Cert.KernelIdeal.Gen

variable {F : FTy → Type} [FloatOps F]

/-- The kernel's polynomial of a distance `u` from the nearest whole turn. -/
def poly (u : F .bf16) : F .bf16 :=
  FloatOps.mulf u (FloatOps.addf (Scalar.ofBits .bf16 0x40C9#16)
    (FloatOps.mulf (FloatOps.mulf u u) (FloatOps.addf (Scalar.ofBits .bf16 0xC225#16)
      (FloatOps.mulf (FloatOps.mulf u u) (FloatOps.addf (Scalar.ofBits .bf16 0x429D#16)
        (FloatOps.mulf (FloatOps.mulf u u) (Scalar.ofBits .bf16 0xC264#16)))))))

/-- One element of the result: the polynomial of `x * s + o` less the whole turn nearest to it. -/
def cell (x s o : F .f32) : F .f32 :=
  FloatOps.extf .f32 bitsLt_bf16_f32 (poly (FloatOps.truncf .bf16 bitsLt_bf16_f32
    (FloatOps.subf (FloatOps.addf (FloatOps.mulf x s) o)
      (FloatOps.sitofp .f32 (FloatOps.fptosi 32 (FloatOps.roundeven (FloatOps.addf (FloatOps.mulf x s) o)))))))

/-- One store's rows: `cell` of a column of arguments and the two tables' rows. -/
def rows (v0 v1 : Vec F S1x256 .f32) (x : Vec F S1x128x1 .f32) : FVec F S128x256 .f32 := fun i =>
  cell (broadcastTo S128x256 (shapeCast S128x1 x shapeCasts_S1x128x1_S128x1) broadcasts_S128x1_S128x256 i)
    (broadcastTo S128x256 v0 broadcasts_S1x256_S128x256 i) (broadcastTo S128x256 v1 broadcasts_S1x256_S128x256 i)

/-- The rows of store `g` lie in the output block. -/
theorem inb_rows (g : Nat) (h : g < 64) : ∀ a, ![128 * g, 0] a + S128x256.size a ≤ S8192x256.size a := by
  intro a
  match a with
  | ⟨0, _⟩ => show 128 * g + 128 ≤ 8192; omega
  | ⟨1, _⟩ => show 0 + 256 ≤ 256; omega

/-- Column `g` lies in the block of arguments. -/
theorem inb_col (g : Nat) (h : g < 64) : ∀ a, ![0, 0, g] a + S1x128x1.size a ≤ S1x128x64.size a := by
  intro a
  match a with
  | ⟨0, _⟩ => show 0 + 1 ≤ 1; omega
  | ⟨1, _⟩ => show 0 + 128 ≤ 128; omega
  | ⟨2, _⟩ => show g + 1 ≤ 64; omega

/-- Store `g`: the rows it covers and what it puts there. -/
def piece (x0 : Vec F S1x128x64 .f32) (x1 x2 : Vec F S1x256 .f32) (g : Nat) (h : g < 64) :
    View.Piece (Elt F) S8192x256 .f32 :=
  ⟨Rect.unit (s := S8192x256) ![128 * g, 0] S128x256.size (inb_rows g h),
    rows (View.ld x1 r0_0) (View.ld x2 r0_0)
      (View.ld x0 (Rect.unit (s := S1x128x64) ![0, 0, g] S1x128x1.size (inb_col g h)))⟩

/-- The first `n` stores, the last of them first. -/
def pieces (x0 : Vec F S1x128x64 .f32) (x1 x2 : Vec F S1x256 .f32) :
    (n : Nat) → n ≤ 64 → List (View.Piece (Elt F) S8192x256 .f32)
  | 0, _ => []
  | n + 1, h => piece x0 x1 x2 n h :: pieces x0 x1 x2 n (Nat.le_of_succ_le h)

/-- The block the body leaves is the canon of those 64 stores. -/
theorem out_eq (x0 : Vec F S1x128x64 .f32) (x1 x2 : Vec F S1x256 .f32) :
    out0_3 x0 x1 x2 = View.canon (pieces x0 x1 x2 64 (le_refl 64)) := rfl

/-- An element of one store's rows: `cell` of the argument in its row and of the two tables' entries in its column. -/
theorem rows_apply (v0 v1 : Vec F S1x256 .f32) (x : Vec F S1x128x1 .f32) (i : S128x256.Idx) :
    rows v0 v1 x i = cell (x (ix3 (0 : Fin 1) (i 0) (0 : Fin 1))) (v0 (ix2 (0 : Fin 1) (i 1))) (v1 (ix2 (0 : Fin 1) (i 1))) := by
  have hx : broadcastTo S128x256 (shapeCast S128x1 x shapeCasts_S1x128x1_S128x1) broadcasts_S128x1_S128x256 i
      = x (ix3 (0 : Fin 1) (i 0) (0 : Fin 1)) := by
    refine (broadcastTo_apply _ _ i (ix2 (i 0) (0 : Fin 1)) fun a => ?_).trans
      (shapeCast_apply _ _ _ _ ?_)
    · match a with
      | ⟨0, _⟩ => rfl
      | ⟨1, _⟩ => rfl
    · refine (Shape.rowMajor_val_three _).trans (Eq.trans ?_ (Shape.rowMajor_val_two _).symm)
      show (0 * 128 + (i 0 : Nat)) * 1 + 0 = (i 0 : Nat) * 1 + 0
      omega
  have hv : ∀ v : Vec F S1x256 .f32, broadcastTo S128x256 v broadcasts_S1x256_S128x256 i = v (ix2 (0 : Fin 1) (i 1)) := fun v =>
    broadcastTo_apply v _ i _ fun a => match a with
      | ⟨0, _⟩ => rfl
      | ⟨1, _⟩ => rfl
  unfold rows
  rw [hx, hv v0, hv v1]

/-- The whole output block as one function of its index: row `128 g + p` reads the argument in row `p` of column `g`. -/
def block (x0 : Vec F S1x128x64 .f32) (x1 x2 : Vec F S1x256 .f32) : Vec F S8192x256 .f32 := fun y =>
  cell (x0 (ix3 (0 : Fin 1) (⟨(y 0 : Nat) % 128, Nat.mod_lt _ (by decide)⟩ : Fin 128)
      (⟨(y 0 : Nat) / 128, Nat.div_lt_of_lt_mul (y 0).isLt⟩ : Fin 64)))
    (x1 (ix2 (0 : Fin 1) (y 1))) (x2 (ix2 (0 : Fin 1) (y 1)))

/-- Store `g` puts the block's own elements where it stores. -/
theorem piece_apply (x0 : Vec F S1x128x64 .f32) (x1 x2 : Vec F S1x256 .f32) (g : Nat) (h : g < 64)
    (i : (piece x0 x1 x2 g h).1.shape.Idx) :
    (piece x0 x1 x2 g h).2 i = block x0 x1 x2 ((piece x0 x1 x2 g h).1.emb i) := by
  have hp : ((i 0 : Fin _) : Nat) < 128 := (i 0).isLt
  have e0 : (((piece x0 x1 x2 g h).1.emb i 0 : Fin _) : Nat) = 128 * g + (i 0 : Fin _) :=
    ValueKit.rect_emb_unit_val (s := S8192x256) ![128 * g, 0] S128x256.size (inb_rows g h) i 0
  have e1 : (((piece x0 x1 x2 g h).1.emb i 1 : Fin _) : Nat) = 0 + (i 1 : Fin _) :=
    ValueKit.rect_emb_unit_val (s := S8192x256) ![128 * g, 0] S128x256.size (inb_rows g h) i 1
  have hld : ∀ v : Vec F S1x256 .f32, View.ld v r0_0 (ix2 (0 : Fin 1) (i 1)) = v (ix2 (0 : Fin 1) ((piece x0 x1 x2 g h).1.emb i 1)) := by
    refine fun v => congrArg v (funext fun a => Fin.ext ?_)
    match a with
    | ⟨0, _⟩ => rfl
    | ⟨1, _⟩ =>
      show 0 + 1 * ((i 1 : Fin _) : Nat) = ((piece x0 x1 x2 g h).1.emb i 1 : Fin _).val
      rw [e1]; omega
  refine (rows_apply _ _ _ i).trans ?_
  unfold block
  congr 1
  · refine congrArg x0 (funext fun a => Fin.ext ?_)
    match a with
    | ⟨0, _⟩ => rfl
    | ⟨1, _⟩ =>
      show 0 + 1 * ((i 0 : Fin _) : Nat) = ((piece x0 x1 x2 g h).1.emb i 0 : Fin _).val % 128
      rw [e0]; omega
    | ⟨2, _⟩ =>
      show g + 1 * 0 = ((piece x0 x1 x2 g h).1.emb i 0 : Fin _).val / 128
      rw [e0]; omega
  · exact hld x1
  · exact hld x2

/-- Every one of the first `n` stores is a store `g < n`. -/
theorem mem_pieces (x0 : Vec F S1x128x64 .f32) (x1 x2 : Vec F S1x256 .f32) : ∀ (n : Nat) (hn : n ≤ 64)
    (p : View.Piece (Elt F) S8192x256 .f32), p ∈ pieces x0 x1 x2 n hn ↔ ∃ g, ∃ h : g < n, p = piece x0 x1 x2 g (by omega)
  | 0, _, p => by simp [pieces]
  | n + 1, hn, p => by
    rw [pieces, List.mem_cons, mem_pieces x0 x1 x2 n]
    constructor
    · rintro (rfl | ⟨g, h, rfl⟩)
      · exact ⟨n, by omega, rfl⟩
      · exact ⟨g, by omega, rfl⟩
    · rintro ⟨g, h, rfl⟩
      rcases Nat.lt_succ_iff_lt_or_eq.mp h with h' | rfl
      · exact Or.inr ⟨g, h', rfl⟩
      · exact Or.inl rfl

/-- What the body leaves in its output block, element by element. -/
theorem out_apply (x0 : Vec F S1x128x64 .f32) (x1 x2 : Vec F S1x256 .f32) (y : S8192x256.Idx) :
    out0_3 x0 x1 x2 y = block x0 x1 x2 y := by
  rw [out_eq]
  refine View.canon_apply_of_pieces (block x0 x1 x2) _ (fun p hp i => ?_) y ?_
  · obtain ⟨g, h, rfl⟩ := (mem_pieces x0 x1 x2 64 _ p).mp hp
    exact piece_apply x0 x1 x2 g h i
  · have h0 : ((y 0 : Fin _) : Nat) < 8192 := (y 0).isLt
    have h1 : ((y 1 : Fin _) : Nat) < 256 := (y 1).isLt
    refine ⟨_, (mem_pieces x0 x1 x2 64 _ _).mpr ⟨(y 0 : Nat) / 128, by omega, rfl⟩, ?_⟩
    show y ∈ (Rect.unit (s := S8192x256) ![128 * ((y 0 : Nat) / 128), 0] S128x256.size (inb_rows _ (by omega))).set
    rw [Rect.mem_set_unit]
    intro a
    match a with
    | ⟨0, _⟩ => show 128 * ((y 0 : Nat) / 128) ≤ (y 0 : Nat) ∧ (y 0 : Nat) < 128 * ((y 0 : Nat) / 128) + 128; omega
    | ⟨1, _⟩ => show 0 ≤ (y 1 : Nat) ∧ (y 1 : Nat) < 0 + 256; omega

/-! ## The array -/

open Idealize.ShloMosaic.Pipeline (Dat)

variable (m : (ℓ : Loc nD τ sig) → Buf (Elt F) ℓ) (ρ : Dev nD → PrngReg)

/-- The whole result: row `r` and column `c` hold `cell` of argument `r` and of the two tables' entries `c`. -/
def result (c : Dev nD) : Buf (Elt F) ((c : Thread nD τ).loc main_v2) := fun i : S1048576x256.Idx =>
  cell (F := F) (m ((c : Thread nD τ).loc main_arg0) (ix1 (i 0))) (FloatOps.ofBits .f32 (lit0 (i 1))) (FloatOps.ofBits .f32 (lit1 (i 1)))

/-- The first table when the kernel is entered. -/
theorem V_scale (c : Dev nD) : V m c main_cst = fun i => FloatOps.ofBits .f32 (lit0 (S1x256.rowMajor i)) := by
  show StableHlo.after hostOps0 _ (Proc.devRef .tc main_cst) = _
  after_results
  rfl

/-- The second table when the kernel is entered. -/
theorem V_off (c : Dev nD) : V m c main_cst_0 = fun i => FloatOps.ofBits .f32 (lit1 (S1x256.rowMajor i)) := by
  show StableHlo.after hostOps0 _ (Proc.devRef .tc main_cst_0) = _
  after_results
  rfl

/-- The arguments when the kernel is entered: cut in 128 blocks of 64 rows of 128, each block transposed. -/
theorem V_x (c : Dev nD) : V m c main_v1 = transpose S128x128x64 [0, 2, 1]
    (shapeCast S128x64x128 (m ((c : Thread nD τ).loc main_arg0)) shapeCasts_S1048576_S128x64x128)
    transposes_S128x64x128_S128x128x64_0_2_1 := by
  show StableHlo.after hostOps0 _ (Proc.devRef .tc main_v1) = _
  after_results
  rfl

/-- So element `(t, p, g)` of what the kernel is given is argument `8192 t + 128 g + p`. -/
theorem V_x_apply (c : Dev nD) (j : S128x128x64.Idx) (r : Fin 1048576)
    (hr : (r : Nat) = ((j 0 : Nat) * 64 + (j 2 : Nat)) * 128 + (j 1 : Nat)) :
    V m c main_v1 j = m ((c : Thread nD τ).loc main_arg0) (ix1 r) := by
  rw [V_x]
  refine (transpose_apply _ _ _ j (ix3 (j 0) (j 2) (j 1)) fun b => ?_).trans (shapeCast_apply _ _ _ _ ?_)
  · match b with
    | ⟨0, _⟩ => rfl
    | ⟨1, _⟩ => rfl
    | ⟨2, _⟩ => rfl
  · refine (Shape.rowMajor_val_one _).trans (Eq.trans ?_ (Shape.rowMajor_val_three _).symm)
    exact hr

/-- Block `t` of the result starts at row `8192 t`. -/
theorem index_out : ∀ t : Fin cfg0.N, win0_3.index t = ![t.val, 0] :=
  (by decide +kernel : ∀ t : Fin grid0.N, win0_3.index t = ![t.val, 0])

/-- Block `t` of the arguments is the `t`-th. -/
theorem index_x : ∀ t : Fin cfg0.N, win0_0.index t = ![t.val, 0, 0] :=
  (by decide +kernel : ∀ t : Fin grid0.N, win0_0.index t = ![t.val, 0, 0])

/-- The first table is taken whole. -/
theorem index_scale : ∀ t : Fin cfg0.N, win0_1.index t = ![0, 0] :=
  (by decide +kernel : ∀ t : Fin grid0.N, win0_1.index t = ![0, 0])

/-- The second table is taken whole. -/
theorem index_off : ∀ t : Fin cfg0.N, win0_2.index t = ![0, 0] :=
  (by decide +kernel : ∀ t : Fin grid0.N, win0_2.index t = ![0, 0])

/-- The kernel's block of the first table is the table. -/
theorem iblk_scale (c : Dev nD) (t : Fin cfg0.N) (k : Fin 256) :
    iblk m c 1 t (ix2 (0 : Fin 1) k) = FloatOps.ofBits .f32 (lit0 k) := by
  show V m c main_cst ((win0_1.blk t).view.emb (ix2 (0 : Fin 1) k)) = _
  have e0 : (((win0_1.blk t).view.emb (ix2 (0 : Fin 1) k) 0 : Fin _) : Nat) = 0 := by blk_simp [index_scale]; simp
  have e1 : (((win0_1.blk t).view.emb (ix2 (0 : Fin 1) k) 1 : Fin _) : Nat) = k := by blk_simp [index_scale]
  rw [V_scale]
  refine congrArg (fun n => FloatOps.ofBits .f32 (lit0 n)) (Fin.ext ((Shape.rowMajor_val_two _).trans ?_))
  rw [e0, e1]
  exact (congrArg (· + (k : Nat)) (Nat.zero_mul 256)).trans (Nat.zero_add _)

/-- The kernel's block of the second table is the table. -/
theorem iblk_off (c : Dev nD) (t : Fin cfg0.N) (k : Fin 256) :
    iblk m c 2 t (ix2 (0 : Fin 1) k) = FloatOps.ofBits .f32 (lit1 k) := by
  show V m c main_cst_0 ((win0_2.blk t).view.emb (ix2 (0 : Fin 1) k)) = _
  have e0 : (((win0_2.blk t).view.emb (ix2 (0 : Fin 1) k) 0 : Fin _) : Nat) = 0 := by blk_simp [index_off]; simp
  have e1 : (((win0_2.blk t).view.emb (ix2 (0 : Fin 1) k) 1 : Fin _) : Nat) = k := by blk_simp [index_off]
  rw [V_off]
  refine congrArg (fun n => FloatOps.ofBits .f32 (lit1 n)) (Fin.ext ((Shape.rowMajor_val_two _).trans ?_))
  rw [e0, e1]
  exact (congrArg (· + (k : Nat)) (Nat.zero_mul 256)).trans (Nat.zero_add _)

/-- Element `(p, g)` of the kernel's block `t` of the arguments is argument `8192 t + 128 g + p`. -/
theorem iblk_x (c : Dev nD) (t : Fin cfg0.N) (p : Fin 128) (g : Fin 64) (r : Fin 1048576)
    (hr : (r : Nat) = (t.val * 64 + g) * 128 + p) :
    iblk m c 0 t (ix3 (0 : Fin 1) p g) = m ((c : Thread nD τ).loc main_arg0) (ix1 r) := by
  show V m c main_v1 ((win0_0.blk t).view.emb (ix3 (0 : Fin 1) p g)) = _
  refine V_x_apply m c _ r ?_
  blk_simp [index_x]
  simpa using hr

/-- After the run the result array holds `result`. -/
theorem final_out (c : Dev nD) : (dats m 0 c).arrAt 3 cfg0.N = result m c := by
  refine (dats m 0 c).arrAt_eq_of_covers 3 _ (by decide +kernel) fun t hf y => ?_
  blk_simp
  rw [after0_3]
  refine (out_apply _ _ _ _).trans ?_
  have h0 : ((y 0 : Fin _) : Nat) < 8192 := (y 0).isLt
  have e0 : (((win0_3.blk t).view.emb y 0 : Fin _) : Nat) = t.val * 8192 + (y 0 : Fin _) := by
    blk_simp [index_out]
  have e1 : ((win0_3.blk t).view.emb y 1 : Fin _) = y 1 := by
    refine Fin.ext ?_; blk_simp [index_out]
  unfold block result
  rw [e1]
  congr 1
  · refine iblk_x m c t _ _ _ ?_
    rw [e0]
    show t.val * 8192 + ((y 0 : Fin _) : Nat) = (t.val * 64 + ((y 0 : Fin _) : Nat) / 128) * 128 + ((y 0 : Fin _) : Nat) % 128
    omega
  · exact iblk_scale m c t (y 1)
  · exact iblk_off m c t (y 1)

/-- The kernel's run: the result array at `result`, the argument unchanged. -/
theorem run_result : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0) :=
  (θ_run defs _ _).mono (fun _ h c => ⟨(h c).1.trans (final_out m c), (h c).2⟩) (Value.run_blocks m ρ)

end Cert.KernelIdeal.RefValue

end
-- ==== Proof.Layout.lean ====
/-
  The layout both plain functions (the reference and the accuracy predicate) end in: two arrays of one row per
  argument and one column per frequency, laid out alternately in the columns of the result.
-/
module

public import Idealize.ShloMosaic.Lib.Pipeline.Value
public import Idealize.ShloMosaic.Lib.Pointwise

@[expose] public section

noncomputable section

open Idealize.ShloMosaic

namespace Cert.Layout

variable {α : Type}

/-- The shape of a row per argument and a column per frequency. -/
abbrev Half : Shape := ⟨2, ![1048576, 128]⟩
/-- The same with a last axis of extent 1. -/
abbrev HalfOne : Shape := ⟨3, ![1048576, 128, 1]⟩
/-- The same with the two arrays side by side on the last axis. -/
abbrev Pairs : Shape := ⟨3, ![1048576, 128, 2]⟩
/-- The shape of the result. -/
abbrev Full : Shape := ⟨2, ![1048576, 256]⟩
/-- The shape of the arguments. -/
abbrev Args : Shape := ⟨1, ![1048576]⟩
/-- The shape of the frequencies. -/
abbrev Freqs : Shape := ⟨1, ![128]⟩

/-- The frequency a column of the result belongs to. -/
abbrev freq (k : Fin 256) : Fin 128 := ⟨(k : Nat) / 2, Nat.div_lt_of_lt_mul k.isLt⟩

/-- Two arrays stacked on a new last axis and flattened: the even columns are the first's, the odd ones the second's. -/
theorem interleave_apply (X Y : Half.Idx → α) (hb hb' : Half.BroadcastsInDim HalfOne ![0, 1])
    (hc : Shape.Concatenates [HalfOne, HalfOne] Pairs 2) (hs : Pairs.ShapeCasts Full) (r : Fin 1048576) (k : Fin 256) :
    shapeCast Full (concatenate Pairs 2 [⟨HalfOne, broadcastInDim HalfOne ![0, 1] hb X⟩,
        ⟨HalfOne, broadcastInDim HalfOne ![0, 1] hb' Y⟩] hc) hs (ix2 r k)
      = if (k : Nat) % 2 = 0 then X (ix2 r (freq k)) else Y (ix2 r (freq k)) := by
  have hk : (k : Nat) < 256 := k.isLt
  have hbc : ∀ (Z : Half.Idx → α) (h : Half.BroadcastsInDim HalfOne ![0, 1]),
      broadcastInDim HalfOne ![0, 1] h Z (ix3 r (freq k) (0 : Fin 1)) = Z (ix2 r (freq k)) := fun Z h =>
    broadcastInDim_apply _ _ _ _ _ fun a => match a with
      | ⟨0, _⟩ => rfl
      | ⟨1, _⟩ => rfl
  refine (shapeCast_apply _ _ _ (ix3 r (freq k) (⟨(k : Nat) % 2, Nat.mod_lt _ (by decide)⟩ : Fin 2)) ?_).trans ?_
  · refine (Shape.rowMajor_val_three _).trans (Eq.trans ?_ (Shape.rowMajor_val_two _).symm)
    show ((r : Nat) * 128 + (k : Nat) / 2) * 2 + (k : Nat) % 2 = (r : Nat) * 256 + (k : Nat)
    omega
  · by_cases h : (k : Nat) % 2 = 0
    · rw [if_pos h]
      refine (concatenate_pair_apply_left (t := Pairs) (s₁ := HalfOne) (s₂ := HalfOne) 2 _ _ hc _ rfl (ix3 r (freq k) (0 : Fin 1)) fun b => ?_).trans (hbc X hb)
      match b with
      | ⟨0, _⟩ => rfl
      | ⟨1, _⟩ => rfl
      | ⟨2, _⟩ => exact h.symm
    · rw [if_neg h]
      refine (concatenate_pair_apply_right (t := Pairs) (s₁ := HalfOne) (s₂ := HalfOne) 2 _ _ hc _ rfl rfl (ix3 r (freq k) (0 : Fin 1)) (fun b hb => ?_) ?_).trans (hbc Y hb')
      · match b with
        | ⟨0, _⟩ => rfl
        | ⟨1, _⟩ => rfl
        | ⟨2, _⟩ => exact absurd rfl hb
      · show 0 + 1 = (k : Nat) % 2
        omega

/-- Arguments spread over the frequencies: an element reads the argument in its row. -/
theorem spread_rows_apply (x : Args.Idx → α) (h : Args.BroadcastsInDim ⟨2, ![1048576, 1]⟩ ![0])
    (h' : (⟨2, ![1048576, 1]⟩ : Shape).BroadcastsInDim Half ![0, 1]) (r : Fin 1048576) (k : Fin 128) :
    broadcastInDim Half ![0, 1] h' (broadcastInDim (⟨2, ![1048576, 1]⟩ : Shape) ![0] h x) (ix2 r k) = x (ix1 r) :=
  (broadcastInDim_apply _ _ _ _ (ix2 r (0 : Fin 1)) fun a => match a with
      | ⟨0, _⟩ => rfl
      | ⟨1, _⟩ => rfl).trans
    (broadcastInDim_apply _ _ _ _ (ix1 r) fun a => match a with
      | ⟨0, _⟩ => rfl)

/-- Frequencies spread over the arguments: an element reads the frequency in its column. -/
theorem spread_columns_apply (f : Freqs.Idx → α) (h : Freqs.BroadcastsInDim ⟨2, ![1, 128]⟩ ![1])
    (h' : (⟨2, ![1, 128]⟩ : Shape).BroadcastsInDim Half ![0, 1]) (r : Fin 1048576) (k : Fin 128) :
    broadcastInDim Half ![0, 1] h' (broadcastInDim (⟨2, ![1, 128]⟩ : Shape) ![1] h f) (ix2 r k) = f (ix1 k) :=
  (broadcastInDim_apply _ _ _ _ (ix2 (0 : Fin 1) k) fun a => match a with
      | ⟨0, _⟩ => rfl
      | ⟨1, _⟩ => rfl).trans
    (broadcastInDim_apply _ _ _ _ (ix1 k) fun a => match a with
      | ⟨0, _⟩ => rfl)

end Cert.Layout

end
-- ==== Proof.Plain.lean ====
/-
  The reference read element by element.
-/
module

public import proofs.«01_k».proof.Proof.Gen.ReferenceIdeal.Run
public import proofs.«01_k».proof.Proof.Layout

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.Layout

variable {F : FTy → Type} [FloatOps F]

/-- The distance of `t` turns from the nearest whole turn. -/
def distance (t : F .f32) : F .f32 :=
  FloatOps.subf t (FloatOps.sitofp .f32 (FloatOps.fptosi 32 (FloatOps.hostUnary .roundeven t)))

/-- The reference's polynomial of a distance from the nearest whole turn. -/
def poly (u : F .f32) : F .f32 :=
  FloatOps.mulf u (FloatOps.addf (FloatOps.ofBits .f32 0x40C90000#32) (FloatOps.mulf (FloatOps.mulf u u)
    (FloatOps.addf (FloatOps.ofBits .f32 0xC2250000#32) (FloatOps.mulf (FloatOps.mulf u u)
      (FloatOps.subf (FloatOps.ofBits .f32 0x429D0000#32)
        (FloatOps.mulf (FloatOps.ofBits .f32 0x42640000#32) (FloatOps.mulf u u)))))))

variable (m : (ℓ : Loc nD τ sig) → Buf (Elt F) ℓ)

/-- The turns of every argument at every frequency. -/
def turns (c : Dev nD) : FVec F S1048576x128 .f32 :=
  mulf (broadcastInDim S1048576x128 ![0, 1] bcast_S1048576x1_S1048576x128_0_1
      (broadcastInDim S1048576x1 ![0] bcast_S1048576_S1048576x1_0 (m ((c.tc : Thread nD τ).loc main_arg0))))
    (broadcastInDim S1048576x128 ![0, 1] bcast_S1x128_S1048576x128_0_1
      (broadcastInDim S1x128 ![1] bcast_S128_S1x128_1 (fun i => FloatOps.ofBits .f32 (lit0 (S128.rowMajor i)))))

/-- The reference's result: the polynomial of the turns and of the turns and a quarter, laid out alternately. -/
theorem res_eq (c : Dev nD) : Value.res_out0 m c
    = shapeCast S1048576x256 (concatenate S1048576x128x2 2
        [⟨S1048576x128x1, broadcastInDim S1048576x128x1 ![0, 1] bcast_S1048576x128_S1048576x128x1_0_1
            (fun i => poly (distance (turns m c i)))⟩,
          ⟨S1048576x128x1, broadcastInDim S1048576x128x1 ![0, 1] bcast_S1048576x128_S1048576x128x1_0_1
            (fun i => poly (distance (FloatOps.addf (turns m c i) (FloatOps.ofBits .f32 0x3E800000#32))))⟩]
        concatenates_S1048576x128x1_S1048576x128x1_S1048576x128x2_d2) shapeCasts_S1048576x128x2_S1048576x256 := rfl

/-- The turns of argument `r` at frequency `k`. -/
theorem turns_apply (c : Dev nD) (r : Fin 1048576) (k : Fin 128) : turns m c (ix2 r k)
    = FloatOps.mulf (m ((c.tc : Thread nD τ).loc main_arg0) (ix1 r)) (FloatOps.ofBits .f32 (lit0 k)) := by
  have e := spread_columns_apply (fun i => (FloatOps.ofBits .f32 (lit0 (S128.rowMajor i)) : F .f32))
    bcast_S128_S1x128_1 bcast_S1x128_S1048576x128_0_1 r k
  have e' : S128.rowMajor (ix1 k) = k := Fin.ext (Shape.rowMajor_val_one _)
  exact congrArg₂ FloatOps.mulf (spread_rows_apply _ _ _ r k)
    (e.trans (congrArg (fun n => (FloatOps.ofBits .f32 (lit0 n) : F .f32)) e'))

/-- The reference's result, element by element. -/
theorem res_apply (c : Dev nD) (r : Fin 1048576) (k : Fin 256) : Value.res_out0 m c (ix2 r k)
    = if (k : Nat) % 2 = 0 then
        poly (distance (FloatOps.mulf (m ((c.tc : Thread nD τ).loc main_arg0) (ix1 r)) (FloatOps.ofBits .f32 (lit0 (freq k)))))
      else poly (distance (FloatOps.addf
        (FloatOps.mulf (m ((c.tc : Thread nD τ).loc main_arg0) (ix1 r)) (FloatOps.ofBits .f32 (lit0 (freq k))))
        (FloatOps.ofBits .f32 0x3E800000#32))) := by
  rw [res_eq, ← turns_apply m c r (freq k)]
  exact interleave_apply _ _ _ _ _ _ r k

end Cert.ReferenceIdeal.RefValue

end
-- ==== Proof.Equal.lean ====
/-
  Over the extended reals the kernel's result is the reference's.
-/
module

public import proofs.«01_k».proof.Proof.Block
public import proofs.«01_k».proof.Proof.Plain
public import Idealize.ShloMosaic.Lib.IdealHost

@[expose] public section

set_option maxRecDepth 16384

noncomputable section

open Idealize.ShloMosaic Idealize.ShloMosaic.TcCoe Idealize.SL.Sem

namespace Cert.Equal

open Cert.Layout

/-! ## The tables and the constants -/

/-- The kernel's first table is the reference's, every entry twice. -/
theorem scale_eq : ∀ k : Fin 256, Cert.KernelIdeal.lit0 k = Cert.ReferenceIdeal.lit0 (freq k) := by decide +kernel

/-- The kernel's second table is 0 in the even columns and a quarter in the odd ones. -/
theorem off_eq : ∀ k : Fin 256, Cert.KernelIdeal.lit1 k = if (k : Nat) % 2 = 0 then 0x00000000#32 else 0x3E800000#32 := by
  decide +kernel

/-- The polynomial's first coefficient, as the kernel writes it. -/
theorem kernel_first : Ideal.ofBits .bf16 0x40C9#16 = ((201 / 32 : ℝ) : EReal) := by
  simp [Ideal.ofBits, Ideal.ieee, -EReal.coe_mul, -EReal.coe_neg]; norm_num
/-- The second. -/
theorem kernel_second : Ideal.ofBits .bf16 0xC225#16 = ((-(165 / 4) : ℝ) : EReal) := by
  simp [Ideal.ofBits, Ideal.ieee, -EReal.coe_mul, -EReal.coe_neg]; norm_num
/-- The third. -/
theorem kernel_third : Ideal.ofBits .bf16 0x429D#16 = ((157 / 2 : ℝ) : EReal) := by
  simp [Ideal.ofBits, Ideal.ieee, -EReal.coe_mul, -EReal.coe_neg]; norm_num
/-- The fourth. -/
theorem kernel_fourth : Ideal.ofBits .bf16 0xC264#16 = ((-57 : ℝ) : EReal) := by
  simp [Ideal.ofBits, Ideal.ieee, -EReal.coe_mul, -EReal.coe_neg]; norm_num
/-- The polynomial's first coefficient, as the reference writes it. -/
theorem plain_first : Ideal.ofBits .f32 0x40C90000#32 = ((201 / 32 : ℝ) : EReal) := by
  simp [Ideal.ofBits, Ideal.ieee, -EReal.coe_mul, -EReal.coe_neg]; norm_num
/-- The second. -/
theorem plain_second : Ideal.ofBits .f32 0xC2250000#32 = ((-(165 / 4) : ℝ) : EReal) := by
  simp [Ideal.ofBits, Ideal.ieee, -EReal.coe_mul, -EReal.coe_neg]; norm_num
/-- The third. -/
theorem plain_third : Ideal.ofBits .f32 0x429D0000#32 = ((157 / 2 : ℝ) : EReal) := by
  simp [Ideal.ofBits, Ideal.ieee, -EReal.coe_mul, -EReal.coe_neg]; norm_num
/-- The fourth, which the reference takes away. -/
theorem plain_fourth : Ideal.ofBits .f32 0x42640000#32 = ((57 : ℝ) : EReal) := by
  simp [Ideal.ofBits, Ideal.ieee, -EReal.coe_mul, -EReal.coe_neg]; norm_num
/-- A quarter. -/
theorem quarter : Ideal.ofBits .f32 0x3E800000#32 = ((1 / 4 : ℝ) : EReal) := by
  simp [Ideal.ofBits, Ideal.ieee, -EReal.coe_mul, -EReal.coe_neg]; norm_num
/-- Zero. -/
theorem zero_word : Ideal.ofBits .f32 0x00000000#32 = 0 := by
  simp [Ideal.ofBits, Ideal.ieee]

/-! ## One element -/

/-- The distance of `t` turns from the nearest whole turn. -/
def distance (t : EReal) : EReal :=
  t - (((Ideal.fptosi 32 (Ideal.liftRound Ideal.roundHalfEven t)).toInt : ℝ) : EReal)

/-- The polynomial of a distance from the nearest whole turn. -/
def poly (u : EReal) : EReal :=
  u * (((201 / 32 : ℝ) : EReal) + u * u * (((-(165 / 4) : ℝ) : EReal)
    + u * u * (((157 / 2 : ℝ) : EReal) + u * u * ((-57 : ℝ) : EReal))))

/-- An element of the kernel's result over the extended reals. -/
theorem kernel_cell (x s o : EReal) : Cert.KernelIdeal.RefValue.cell (F := Ideal) x s o = poly (distance (x * s + o)) := by
  unfold poly
  rw [← kernel_first, ← kernel_second, ← kernel_third, ← kernel_fourth]
  rfl

/-- The distance the reference takes. -/
theorem plain_distance (t : EReal) : Cert.ReferenceIdeal.RefValue.distance (F := Ideal) t = distance t := rfl

/-- The polynomial the reference takes. -/
theorem plain_poly (u : EReal) : Cert.ReferenceIdeal.RefValue.poly (F := Ideal) u = poly u := by
  have h : Cert.ReferenceIdeal.RefValue.poly (F := Ideal) u
      = u * (Ideal.ofBits .f32 0x40C90000#32 + u * u * (Ideal.ofBits .f32 0xC2250000#32
        + u * u * (Ideal.ofBits .f32 0x429D0000#32 - Ideal.ofBits .f32 0x42640000#32 * (u * u)))) := rfl
  rw [h, plain_first, plain_second, plain_third, plain_fourth]
  unfold poly
  rw [sub_eq_add_neg, ← EReal.neg_mul, mul_comm (-((57 : ℝ) : EReal)), ← EReal.coe_neg]

/-! ## The arrays -/

/-- Element `(r, k)` of the result of arguments `x`: the polynomial of `x r` times the column's frequency, in turns, and
    in an odd column a quarter turn more. -/
def element (x : EReal) (k : Fin 256) : EReal :=
  poly (distance (x * Ideal.ofBits .f32 (Cert.ReferenceIdeal.lit0 (freq k)) + if (k : Nat) % 2 = 0 then 0 else ((1 / 4 : ℝ) : EReal)))

/-- The kernel's result, element by element. -/
theorem kernel_apply (m : (ℓ : Loc Cert.KernelIdeal.nD Cert.KernelIdeal.τ Cert.KernelIdeal.sig) → Buf (Elt Ideal) ℓ)
    (c : Dev Cert.KernelIdeal.nD) (r : Fin 1048576) (k : Fin 256) :
    Cert.KernelIdeal.RefValue.result (F := Ideal) m c (ix2 r k)
      = element (m ((c.tc : Thread Cert.KernelIdeal.nD Cert.KernelIdeal.τ).loc Cert.KernelIdeal.main_arg0) (ix1 r)) k := by
  refine (kernel_cell _ _ _).trans ?_
  unfold element
  have hs : (FloatOps.ofBits (F := Ideal) .f32 (Cert.KernelIdeal.lit0 k)) = Ideal.ofBits .f32 (Cert.ReferenceIdeal.lit0 (freq k)) :=
    congrArg (Ideal.ofBits .f32) (scale_eq k)
  have ho : (FloatOps.ofBits (F := Ideal) .f32 (Cert.KernelIdeal.lit1 k)) = if (k : Nat) % 2 = 0 then 0 else ((1 / 4 : ℝ) : EReal) := by
    refine (congrArg (Ideal.ofBits .f32) (off_eq k)).trans ?_
    split
    · exact zero_word
    · exact quarter
  exact congrFun (congrArg₂ (fun s o x : EReal => poly (distance (x * s + o))) hs ho) _

/-- The reference's result, element by element. -/
theorem plain_apply (m : (ℓ : Loc Cert.ReferenceIdeal.nD Cert.ReferenceIdeal.τ Cert.ReferenceIdeal.sig) → Buf (Elt Ideal) ℓ)
    (c : Dev Cert.ReferenceIdeal.nD) (r : Fin 1048576) (k : Fin 256) :
    Cert.ReferenceIdeal.Value.res_out0 (F := Ideal) m c (ix2 r k)
      = element (m ((c.tc : Thread Cert.ReferenceIdeal.nD Cert.ReferenceIdeal.τ).loc Cert.ReferenceIdeal.main_arg0) (ix1 r)) k := by
  rw [Cert.ReferenceIdeal.RefValue.res_apply]
  unfold element
  split
  · rw [plain_poly, plain_distance, add_zero]; rfl
  · rw [plain_poly, plain_distance, ← quarter]; rfl

/-- The two results are equal when the arguments are. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_out0 (F := Ideal) m' c = Cert.KernelIdeal.RefValue.result (F := Ideal) m c := by
  funext i
  rw [eq_ix2 i]
  exact (plain_apply m' c _ _).trans ((congrArg (fun x : Args.Idx → EReal => element (x (ix1 (i 0))) (i 1)) h).trans
    (kernel_apply m c _ _).symm)

end Cert.Equal

end
-- ==== Proof.Sine.lean ====
/-
  How far the kernel's polynomial is from the sine: over the reals, for a distance of at most half a turn.
-/
module

public import Mathlib.Analysis.Calculus.Deriv.MeanValue
public import Mathlib.Analysis.SpecialFunctions.ExpDeriv
public import Mathlib.Analysis.SpecialFunctions.Trigonometric.Basic
public import Mathlib.Analysis.Calculus.Deriv.Pow
public import Mathlib.Analysis.Complex.RealDeriv
public import Mathlib.Tactic.Linarith
public import Mathlib.Tactic.FieldSimp
public import Mathlib.Tactic.Positivity
public import Mathlib.Tactic.NormNum
public import Mathlib.Tactic.Ring

@[expose] public section

noncomputable section

namespace Cert.Sine

open Finset

/-! ## The sine between two of its Taylor sums -/

/-- The slope of the exponential of a multiple of the argument. -/
theorem slope_exp (a z : ℂ) : HasDerivAt (fun w : ℂ => Complex.exp (w * a)) (Complex.exp (z * a) * a) z := by
  simpa using ((hasDerivAt_id z).mul_const a).cexp

/-- The slope of the sine is the cosine. -/
theorem slope_sin (x : ℝ) : HasDerivAt Real.sin (Real.cos x) x := by
  have h : HasDerivAt Complex.sin (Complex.cos x) (x : ℂ) := by
    have h := (((slope_exp (-Complex.I) x).sub (slope_exp Complex.I x)).mul_const (Complex.I / 2))
    have e : Complex.sin = fun w : ℂ => (Complex.exp (w * -Complex.I) - Complex.exp (w * Complex.I)) * (Complex.I / 2) := by
      funext w
      rw [Complex.sin, neg_mul, mul_neg, mul_div_assoc]
    rw [e, Complex.cos]
    refine h.congr_deriv ?_
    have i2 := Complex.I_mul_I
    simp only [neg_mul, mul_neg]
    generalize Complex.exp (-(x * Complex.I)) = p
    generalize Complex.exp (x * Complex.I) = q
    generalize Complex.I = i at i2
    linear_combination (-(p + q) / 2) * i2
  exact h.real_of_complex

/-- The slope of the cosine is the negative of the sine. -/
theorem slope_cos (x : ℝ) : HasDerivAt Real.cos (-Real.sin x) x := by
  have h := (slope_sin (x + Real.pi / 2)).comp_add_const x (Real.pi / 2)
  rw [Real.cos_add_pi_div_two] at h
  exact h.congr_of_eventuallyEq (Filter.Eventually.of_forall fun y => (Real.sin_add_pi_div_two y).symm)

/-- A function that is 0 at 0 and whose slope is not negative to the right of 0 is not negative there. -/
theorem nonneg_of_slope {f f' : ℝ → ℝ} (h0 : f 0 = 0) (hd : ∀ x, HasDerivAt f (f' x) x)
    (hp : ∀ x, 0 ≤ x → 0 ≤ f' x) {x : ℝ} (hx : 0 ≤ x) : 0 ≤ f x := by
  have hm : MonotoneOn f (Set.Ici 0) := monotoneOn_of_deriv_nonneg (convex_Ici 0)
    (fun y _ => (hd y).continuousAt.continuousWithinAt) (fun y _ => (hd y).differentiableAt.differentiableWithinAt)
    (fun y hy => by rw [(hd y).deriv]; exact hp y (interior_subset hy))
  have := hm (Set.mem_Ici.mpr (le_refl 0)) (Set.mem_Ici.mpr hx) hx
  rwa [h0] at this

/-- The first `n` terms of the sine's Taylor sum. -/
def sinSum (n : ℕ) (x : ℝ) : ℝ := ∑ k ∈ range n, (-1) ^ k * (x ^ (2 * k + 1) / (2 * k + 1).factorial)

/-- The first `n` terms of the cosine's. -/
def cosSum (n : ℕ) (x : ℝ) : ℝ := ∑ k ∈ range n, (-1) ^ k * (x ^ (2 * k) / (2 * k).factorial)

/-- The slope of a power over its factorial is the power below over its own. -/
theorem slope_power (n : ℕ) (x : ℝ) :
    HasDerivAt (fun y : ℝ => y ^ (n + 1) / (n + 1).factorial) (x ^ n / n.factorial) x := by
  have h := (hasDerivAt_pow (n + 1) x).div_const ((n + 1).factorial : ℝ)
  have e : ((n + 1 : ℕ) : ℝ) * x ^ (n + 1 - 1) / ((n + 1).factorial : ℝ) = x ^ n / n.factorial := by
    have hn : (n.factorial : ℝ) ≠ 0 := by positivity
    rw [Nat.factorial_succ, Nat.add_sub_cancel]
    push_cast
    field_simp
  rwa [e] at h

/-- The slope of the sine's sum is the cosine's. -/
theorem slope_sinSum (n : ℕ) (x : ℝ) : HasDerivAt (sinSum n) (cosSum n x) x :=
  HasDerivAt.fun_sum fun k _ => (slope_power (2 * k) x).const_mul _

/-- The slope of the cosine's sum is the negative of the sine's, of one term less. -/
theorem slope_cosSum (n : ℕ) (x : ℝ) : HasDerivAt (cosSum (n + 1)) (-sinSum n x) x := by
  have h : HasDerivAt (fun y : ℝ => (∑ k ∈ range n, (-1) ^ (k + 1) * (y ^ (2 * k + 1 + 1) / (2 * k + 1 + 1).factorial)) + 1)
      (∑ k ∈ range n, (-1) ^ (k + 1) * (x ^ (2 * k + 1) / (2 * k + 1).factorial)) x :=
    (HasDerivAt.fun_sum fun k _ => (slope_power (2 * k + 1) x).const_mul _).add_const _
  have e : cosSum (n + 1) = fun y : ℝ => (∑ k ∈ range n, (-1) ^ (k + 1) * (y ^ (2 * k + 1 + 1) / (2 * k + 1 + 1).factorial)) + 1 := by
    funext y
    rw [cosSum, sum_range_succ']
    simp [mul_add]
  have e' : -sinSum n x = ∑ k ∈ range n, (-1) ^ (k + 1) * (x ^ (2 * k + 1) / (2 * k + 1).factorial) := by
    rw [sinSum, ← sum_neg_distrib]
    exact sum_congr rfl fun k _ => by ring
  rw [e, e']
  exact h

/-- If the cosine is on one side of its sum of `n` terms, so is the sine of its own. -/
theorem sin_side {n : ℕ} (h : ∀ x : ℝ, 0 ≤ x → 0 ≤ (-1) ^ n * (Real.cos x - cosSum n x)) {x : ℝ} (hx : 0 ≤ x) :
    0 ≤ (-1) ^ n * (Real.sin x - sinSum n x) :=
  nonneg_of_slope (f := fun y => (-1) ^ n * (Real.sin y - sinSum n y)) (by simp [sinSum])
    (fun y => ((slope_sin y).sub (slope_sinSum n y)).const_mul _) h hx

/-- The cosine is below its sums of an odd number of terms and above those of an even number, from one term on. -/
theorem cos_side : ∀ (n : ℕ) (x : ℝ), 0 ≤ x → 0 ≤ (-1) ^ (n + 1) * (Real.cos x - cosSum (n + 1) x)
  | 0, x, _ => by simpa [cosSum] using Real.cos_le_one x
  | n + 1, x, hx => by
    refine nonneg_of_slope (f := fun y => (-1) ^ (n + 1 + 1) * (Real.cos y - cosSum (n + 1 + 1) y))
      (f' := fun y => (-1) ^ (n + 1) * (Real.sin y - sinSum (n + 1) y)) ?_ (fun y => ?_)
      (fun y hy => sin_side (cos_side n) hy) hx
    · simp [cosSum, sum_range_succ']
    · have h := ((slope_cos y).sub (slope_cosSum (n + 1) y)).const_mul ((-1 : ℝ) ^ (n + 1 + 1))
      refine h.congr_deriv ?_
      ring

/-- The sine is at most its sum of seven terms. -/
theorem sin_le_sum {x : ℝ} (hx : 0 ≤ x) : Real.sin x ≤ sinSum 7 x := by
  have h := sin_side (cos_side 6) hx
  norm_num at h
  linarith

/-- The sine is at least its sum of eight terms. -/
theorem sum_le_sin {x : ℝ} (hx : 0 ≤ x) : sinSum 8 x ≤ Real.sin x := by
  have h := sin_side (cos_side 7) hx
  norm_num at h
  linarith

/-- The sine of a number that is not negative is at most the number. -/
theorem sin_le_self {x : ℝ} (hx : 0 ≤ x) : Real.sin x ≤ x := by
  have h := sin_side (cos_side 0) hx
  simp [sinSum] at h
  linarith

/-- The size of a sine is at most the size of its argument. -/
theorem abs_sin_le (x : ℝ) : |Real.sin x| ≤ |x| := by
  have key : ∀ y : ℝ, 0 ≤ y → |Real.sin y| ≤ y := by
    intro y hy
    by_cases h : y ≤ Real.pi
    · rw [abs_of_nonneg (Real.sin_nonneg_of_nonneg_of_le_pi hy h)]
      exact sin_le_self hy
    · have := Real.two_le_pi
      have := Real.abs_sin_le_one y
      linarith
  rcases le_total 0 x with h | h
  · rw [abs_of_nonneg h]
    exact key x h
  · rw [abs_of_nonpos h, ← abs_neg, ← Real.sin_neg]
    exact key (-x) (by linarith)

/-- Two sines are at most as far apart as their arguments. -/
theorem abs_sin_sub_le (x y : ℝ) : |Real.sin x - Real.sin y| ≤ |x - y| := by
  have h := abs_sin_le ((x - y) / 2)
  have hc := Real.abs_cos_le_one ((x + y) / 2)
  have e : Real.sin x - Real.sin y = 2 * Real.sin ((x - y) / 2) * Real.cos ((x + y) / 2) := by
    have a := Real.sin_add ((x - y) / 2) ((x + y) / 2)
    have b := Real.sin_sub ((x + y) / 2) ((x - y) / 2)
    rw [show (x - y) / 2 + (x + y) / 2 = x by ring] at a
    rw [show (x + y) / 2 - (x - y) / 2 = y by ring] at b
    rw [a, b]
    ring
  rw [e, abs_mul, abs_mul, abs_two]
  have hd : |(x - y) / 2| = |x - y| / 2 := by rw [abs_div, abs_two]
  have h0 := abs_nonneg (Real.sin ((x - y) / 2))
  nlinarith [abs_nonneg (Real.cos ((x + y) / 2))]

/-! ## Nine decimals of pi -/

/-- Pi is above 3.141592653. -/
theorem lt_pi : (3141592653 / 10 ^ 9 : ℝ) < Real.pi := by
  by_contra h
  have h1 := Real.sin_nonneg_of_nonneg_of_le_pi (x := 3141592653 / 10 ^ 9 - Real.pi) (by linarith)
    (by have := Real.two_le_pi; norm_num at *; linarith)
  rw [Real.sin_sub_pi] at h1
  have h2 := sin_side (cos_side 13) (x := 3141592653 / 10 ^ 9) (by norm_num)
  have h3 : 0 < sinSum 14 (3141592653 / 10 ^ 9) := by
    norm_num [sinSum, sum_range_succ, Nat.factorial]
  norm_num at h1 h2 h3
  linarith

/-- Pi is below 3.141592654. -/
theorem pi_lt : Real.pi < (3141592654 / 10 ^ 9 : ℝ) := by
  by_contra h
  have h1 := Real.sin_nonneg_of_nonneg_of_le_pi (x := 3141592654 / 10 ^ 9) (by norm_num) (by linarith)
  have h2 := sin_side (cos_side 12) (x := 3141592654 / 10 ^ 9) (by norm_num)
  have h3 : sinSum 13 (3141592654 / 10 ^ 9) < 0 := by
    norm_num [sinSum, sum_range_succ, Nat.factorial]
  norm_num at h1 h2 h3
  linarith

/-! ## The polynomial -/

/-- A polynomial of degree 6 is at most `B` between 0 and 1 if its seven Bernstein coefficients there are. -/
theorem bernstein {a₀ a₁ a₂ a₃ a₄ a₅ a₆ B z : ℝ} (h0 : 0 ≤ z) (h1 : z ≤ 1) (b₀ : a₀ ≤ B) (b₁ : a₀ + a₁ / 6 ≤ B)
    (b₂ : a₀ + a₁ / 3 + a₂ / 15 ≤ B) (b₃ : a₀ + a₁ / 2 + a₂ / 5 + a₃ / 20 ≤ B)
    (b₄ : a₀ + 2 * a₁ / 3 + 2 * a₂ / 5 + a₃ / 5 + a₄ / 15 ≤ B)
    (b₅ : a₀ + 5 * a₁ / 6 + 2 * a₂ / 3 + a₃ / 2 + a₄ / 3 + a₅ / 6 ≤ B)
    (b₆ : a₀ + a₁ + a₂ + a₃ + a₄ + a₅ + a₆ ≤ B) :
    a₀ + a₁ * z + a₂ * z ^ 2 + a₃ * z ^ 3 + a₄ * z ^ 4 + a₅ * z ^ 5 + a₆ * z ^ 6 ≤ B := by
  have hw : 0 ≤ 1 - z := by linarith
  have key : B - (a₀ + a₁ * z + a₂ * z ^ 2 + a₃ * z ^ 3 + a₄ * z ^ 4 + a₅ * z ^ 5 + a₆ * z ^ 6)
      = (B - a₀) * (1 - z) ^ 6 + (B - (a₀ + a₁ / 6)) * (6 * z * (1 - z) ^ 5)
        + (B - (a₀ + a₁ / 3 + a₂ / 15)) * (15 * z ^ 2 * (1 - z) ^ 4)
        + (B - (a₀ + a₁ / 2 + a₂ / 5 + a₃ / 20)) * (20 * z ^ 3 * (1 - z) ^ 3)
        + (B - (a₀ + 2 * a₁ / 3 + 2 * a₂ / 5 + a₃ / 5 + a₄ / 15)) * (15 * z ^ 4 * (1 - z) ^ 2)
        + (B - (a₀ + 5 * a₁ / 6 + 2 * a₂ / 3 + a₃ / 2 + a₄ / 3 + a₅ / 6)) * (6 * z ^ 5 * (1 - z))
        + (B - (a₀ + a₁ + a₂ + a₃ + a₄ + a₅ + a₆)) * z ^ 6 := by ring
  have t₀ := mul_nonneg (sub_nonneg.mpr b₀) (by positivity : 0 ≤ (1 - z) ^ 6)
  have t₁ := mul_nonneg (sub_nonneg.mpr b₁) (by positivity : 0 ≤ 6 * z * (1 - z) ^ 5)
  have t₂ := mul_nonneg (sub_nonneg.mpr b₂) (by positivity : 0 ≤ 15 * z ^ 2 * (1 - z) ^ 4)
  have t₃ := mul_nonneg (sub_nonneg.mpr b₃) (by positivity : 0 ≤ 20 * z ^ 3 * (1 - z) ^ 3)
  have t₄ := mul_nonneg (sub_nonneg.mpr b₄) (by positivity : 0 ≤ 15 * z ^ 4 * (1 - z) ^ 2)
  have t₅ := mul_nonneg (sub_nonneg.mpr b₅) (by positivity : 0 ≤ 6 * z ^ 5 * (1 - z))
  have t₆ := mul_nonneg (sub_nonneg.mpr b₆) (by positivity : 0 ≤ z ^ 6)
  linarith

/-- The kernel's polynomial over the reals. -/
def poly (u : ℝ) : ℝ := u * (201 / 32 + u * u * (-(165 / 4) + u * u * (157 / 2 + u * u * (-57))))

/-- Eight decimals of pi. -/
def approxPi : ℝ := 31415927 / 10 ^ 7

/-- For `v` between 0 and 1 the polynomial at `v` half turns is within 0.007834 of the seven-term sum. -/
theorem poly_sum {v : ℝ} (h0 : 0 ≤ v) (h1 : v ≤ 1) : |poly (v / 2) - sinSum 7 (approxPi * v)| ≤ 7834 / 10 ^ 6 := by
  have hz0 : 0 ≤ v ^ 2 := by positivity
  have hz1 : v ^ 2 ≤ 1 := by nlinarith
  obtain ⟨q, hq⟩ : ∃ q : ℝ, q = approxPi := ⟨_, rfl⟩
  have e : poly (v / 2) - sinSum 7 (q * v) = v * ((201 / 64 - q) + (-(165 / 32) + q ^ 3 / 6) * v ^ 2
      + (157 / 64 - q ^ 5 / 120) * (v ^ 2) ^ 2 + (-(57 / 128) + q ^ 7 / 5040) * (v ^ 2) ^ 3 + (-(q ^ 9 / 362880)) * (v ^ 2) ^ 4
      + (q ^ 11 / 39916800) * (v ^ 2) ^ 5 + (-(q ^ 13 / 6227020800)) * (v ^ 2) ^ 6) := by
    simp only [poly, sinSum, sum_range_succ, range_zero, sum_empty, Nat.factorial]
    push_cast
    ring
  rw [← hq, e, abs_mul, abs_of_nonneg h0]
  have hB : |(201 / 64 - q) + (-(165 / 32) + q ^ 3 / 6) * v ^ 2
      + (157 / 64 - q ^ 5 / 120) * (v ^ 2) ^ 2 + (-(57 / 128) + q ^ 7 / 5040) * (v ^ 2) ^ 3 + (-(q ^ 9 / 362880)) * (v ^ 2) ^ 4
      + (q ^ 11 / 39916800) * (v ^ 2) ^ 5 + (-(q ^ 13 / 6227020800)) * (v ^ 2) ^ 6| ≤ 7834 / 10 ^ 6 := by
    rw [abs_le]
    constructor
    · have := bernstein (a₀ := -(201 / 64 - q)) (a₁ := -(-(165 / 32) + q ^ 3 / 6)) (a₂ := -(157 / 64 - q ^ 5 / 120))
        (a₃ := -(-(57 / 128) + q ^ 7 / 5040)) (a₄ := q ^ 9 / 362880) (a₅ := -(q ^ 11 / 39916800)) (a₆ := q ^ 13 / 6227020800)
        (B := 7834 / 10 ^ 6) hz0 hz1
        (by rw [hq, approxPi]; norm_num) (by rw [hq, approxPi]; norm_num) (by rw [hq, approxPi]; norm_num)
        (by rw [hq, approxPi]; norm_num) (by rw [hq, approxPi]; norm_num) (by rw [hq, approxPi]; norm_num)
        (by rw [hq, approxPi]; norm_num)
      linarith
    · exact bernstein hz0 hz1
        (by rw [hq, approxPi]; norm_num) (by rw [hq, approxPi]; norm_num) (by rw [hq, approxPi]; norm_num)
        (by rw [hq, approxPi]; norm_num) (by rw [hq, approxPi]; norm_num) (by rw [hq, approxPi]; norm_num)
        (by rw [hq, approxPi]; norm_num)
  nlinarith [abs_nonneg ((201 / 64 - q) + (-(165 / 32) + q ^ 3 / 6) * v ^ 2
      + (157 / 64 - q ^ 5 / 120) * (v ^ 2) ^ 2 + (-(57 / 128) + q ^ 7 / 5040) * (v ^ 2) ^ 3 + (-(q ^ 9 / 362880)) * (v ^ 2) ^ 4
      + (q ^ 11 / 39916800) * (v ^ 2) ^ 5 + (-(q ^ 13 / 6227020800)) * (v ^ 2) ^ 6)]

/-- The eighth term of the sum is at most 0.000023. -/
theorem eighth {x : ℝ} (h0 : 0 ≤ x) (h1 : x ≤ approxPi) : sinSum 7 x - 23 / 10 ^ 6 ≤ sinSum 8 x := by
  have hp : x ^ 15 ≤ approxPi ^ 15 := pow_le_pow_left₀ h0 h1 15
  have hb : approxPi ^ 15 / 1307674368000 ≤ 23 / 10 ^ 6 := by rw [approxPi]; norm_num
  have e : sinSum 8 x = sinSum 7 x - x ^ 15 / 1307674368000 := by
    rw [sinSum, sum_range_succ, ← sinSum]
    norm_num [Nat.factorial]
    ring
  rw [e]
  have : x ^ 15 / 1307674368000 ≤ approxPi ^ 15 / 1307674368000 := by gcongr
  linarith

/-- For a distance from 0 to half a turn. -/
theorem poly_near_of_nonneg {u : ℝ} (h0 : 0 ≤ u) (h1 : u ≤ 1 / 2) : |poly u - Real.sin (2 * Real.pi * u)| ≤ 7858 / 10 ^ 6 := by
  have hq : (0 : ℝ) ≤ approxPi := by rw [approxPi]; norm_num
  have hx : 0 ≤ approxPi * (2 * u) := by positivity
  have hp := poly_sum (v := 2 * u) (by linarith) (by linarith)
  rw [show 2 * u / 2 = u by ring, abs_le] at hp
  have hs := sin_le_sum hx
  have hs' := sum_le_sin hx
  have h8 := eighth hx (by nlinarith)
  have hl := abs_sin_sub_le (approxPi * (2 * u)) (2 * Real.pi * u)
  have hd : |approxPi * (2 * u) - 2 * Real.pi * u| ≤ 1 / 10 ^ 7 := by
    have a := lt_pi
    have b := pi_lt
    rw [show approxPi * (2 * u) - 2 * Real.pi * u = (approxPi - Real.pi) * (2 * u) by ring, abs_mul,
      abs_of_nonneg (by linarith : 0 ≤ 2 * u)]
    have c : |approxPi - Real.pi| ≤ 1 / 10 ^ 7 := by
      rw [approxPi, abs_le]
      norm_num at a b ⊢
      constructor <;> linarith
    nlinarith [abs_nonneg (approxPi - Real.pi)]
  have hl' := abs_le.mp (hl.trans hd)
  rw [abs_le]
  norm_num at hp h8 hl' ⊢
  constructor <;> linarith [hp.1, hp.2, hl'.1, hl'.2]

/-- For a distance of at most half a turn either way the polynomial is within 0.007858 of the sine. -/
theorem poly_near {u : ℝ} (h : |u| ≤ 1 / 2) : |poly u - Real.sin (2 * Real.pi * u)| ≤ 7858 / 10 ^ 6 := by
  rcases le_total 0 u with h0 | h0
  · exact poly_near_of_nonneg h0 (by rwa [abs_of_nonneg h0] at h)
  · have e := poly_near_of_nonneg (u := -u) (by linarith) (by rwa [abs_of_nonpos h0] at h)
    have ep : poly (-u) = -poly u := by
      rw [poly, poly]
      ring
    rw [ep, mul_neg, Real.sin_neg, ← abs_neg] at e
    rwa [show poly u - Real.sin (2 * Real.pi * u) = -(-poly u - -Real.sin (2 * Real.pi * u)) by ring]

end Cert.Sine

end
-- ==== Proof.Table.lean ====
/-
  How far the kernel's table of frequencies is from the powers it stands for.
-/
module

public import proofs.«01_k».proof.ReferenceIdeal
public import proofs.«01_k».proof.Proof.Sine
public import Idealize.ShloMosaic.PureOps.Ideal

@[expose] public section

set_option maxRecDepth 16384

noncomputable section

open Idealize.ShloMosaic

namespace Cert.Table

/-- The number of 40th binary places in a positive word of exponent field at least 110. -/
def places (w : BitVec 32) : ℕ := (2 ^ 23 + (w.extractLsb' 0 23).toNat) * 2 ^ ((w.extractLsb' 23 8).toNat - 110)

/-- A positive word whose exponent field is from 110 to 254 is its number of 40th binary places, over `2 ^ 40`. -/
theorem word_value (w : BitVec 32) (hs : w.extractLsb' 31 1 = 0#1) (h0 : 110 ≤ (w.extractLsb' 23 8).toNat)
    (h1 : (w.extractLsb' 23 8).toNat < 255) : Ideal.ofBits .f32 w = ((places w / 2 ^ 40 : ℝ) : EReal) := by
  obtain ⟨e, he⟩ := Nat.exists_eq_add_of_le h0
  have hv : Ideal.ofBits .f32 w = (((if (w.extractLsb' 31 1 == 1#1) then -1 else 1 : ℝ) * (2 ^ 23 + (w.extractLsb' 0 23).toNat : ℕ)
      * (2 : ℝ) ^ (((w.extractLsb' 23 8).toNat : ℤ) - (2 ^ (8 - 1) - 1) - 23) : ℝ) : EReal) := by
    show Ideal.ieee 8 23 w = _
    rw [Ideal.ieee, if_neg, if_neg]
    · rfl
    · show ¬ (w.extractLsb' 23 8).toNat = 0
      omega
    · show ¬ (w.extractLsb' 23 8).toNat = 2 ^ 8 - 1
      omega
  rw [hv, hs, places, he]
  congr 1
  rw [show ((110 + e : ℕ) : ℤ) - (2 ^ (8 - 1) - 1) - 23 = (e : ℤ) - 40 by push_cast; ring, zpow_sub₀ (by norm_num), Nat.add_sub_cancel_left]
  push_cast
  simp only [one_mul, zpow_natCast, zpow_ofNat, mul_div_assoc]

/-- Every entry of the table is such a word, and at most 1. -/
theorem entries : ∀ i : Fin 128, (Cert.ReferenceIdeal.lit0 i).extractLsb' 31 1 = 0#1
    ∧ 110 ≤ ((Cert.ReferenceIdeal.lit0 i).extractLsb' 23 8).toNat ∧ ((Cert.ReferenceIdeal.lit0 i).extractLsb' 23 8).toNat < 255
    ∧ places (Cert.ReferenceIdeal.lit0 i) ≤ 2 ^ 40 := by
  decide +kernel

/-- With pi from below, entry `i` is not too small: a bound between whole numbers. -/
theorem entries_not_small : ∀ i : Fin 128, (10 ^ 9 * 2 ^ 40) ^ 128
    ≤ (2 * 3141592653 * places (Cert.ReferenceIdeal.lit0 i) + 55000 * 10 ^ 9) ^ 128 * 10000 ^ (i : ℕ) := by
  decide +kernel

/-- With pi from above, it is not too large. -/
theorem entries_not_large : ∀ i : Fin 128, 55000 * 10 ^ 9 ≤ 2 * 3141592654 * places (Cert.ReferenceIdeal.lit0 i)
    ∧ (2 * 3141592654 * places (Cert.ReferenceIdeal.lit0 i) - 55000 * 10 ^ 9) ^ 128 * 10000 ^ (i : ℕ) ≤ (10 ^ 9 * 2 ^ 40) ^ 128 := by
  decide +kernel

/-- Entry `i` as a real number, in turns. -/
def turns (i : Fin 128) : ℝ := places (Cert.ReferenceIdeal.lit0 i) / 2 ^ 40

/-- Entry `i` is that number. -/
theorem turns_value (i : Fin 128) : Ideal.ofBits .f32 (Cert.ReferenceIdeal.lit0 i) = ((turns i : ℝ) : EReal) :=
  word_value _ (entries i).1 (entries i).2.1 (entries i).2.2.1

/-- It is not negative. -/
theorem turns_nonneg (i : Fin 128) : 0 ≤ turns i := by unfold turns; positivity

/-- It is at most 1. -/
theorem turns_le_one (i : Fin 128) : turns i ≤ 1 := by
  have h : ((places (Cert.ReferenceIdeal.lit0 i) : ℕ) : ℝ) ≤ ((2 ^ 40 : ℕ) : ℝ) := Nat.cast_le.mpr (entries i).2.2.2
  unfold turns
  rw [div_le_one (by norm_num)]
  exact_mod_cast h

/-- The frequency the entry stands for: 10000 to the power `-2 i / 256`. -/
def power (i : ℕ) : ℝ := (10000 : ℝ) ^ ((-2 * (i : ℝ) / 256) : ℝ)

/-- It is positive. -/
theorem power_pos (i : ℕ) : 0 < power i := Real.rpow_pos_of_pos (by norm_num) _

/-- Its 128th power is one over 10000 to the power `i`. -/
theorem power_pow (i : ℕ) : power i ^ 128 * 10000 ^ i = 1 := by
  have h : power i ^ 128 = (10000 : ℝ) ^ (-(i : ℝ)) := by
    rw [power, ← Real.rpow_natCast, ← Real.rpow_mul (by norm_num)]
    congr 1
    push_cast
    ring
  rw [h, Real.rpow_neg (by norm_num), Real.rpow_natCast]
  exact inv_mul_cancel₀ (by positivity)

/-- Two pi times an entry is within 55000 parts in `2 ^ 40` of its frequency. -/
theorem turns_near (i : Fin 128) : |2 * Real.pi * turns i - power i| ≤ 55000 / 2 ^ 40 := by
  have hf := power_pos i
  have hp := power_pow i
  have hd : (0 : ℝ) < 10000 ^ (i : ℕ) := by positivity
  have ht := turns_nonneg i
  have hc : (0 : ℝ) < (10 ^ 9 * 2 ^ 40) := by norm_num
  rw [abs_le]
  constructor
  · have hn := entries_not_small i
    have hr : ((10 ^ 9 * 2 ^ 40 : ℝ)) ^ 128
        ≤ (2 * 3141592653 * (places (Cert.ReferenceIdeal.lit0 i) : ℝ) + 55000 * 10 ^ 9) ^ 128 * 10000 ^ (i : ℕ) := by
      exact_mod_cast hn
    have hb : power i ^ 128 ≤ (2 * (3141592653 / 10 ^ 9) * turns i + 55000 / 2 ^ 40) ^ 128 := by
      have e : 2 * (3141592653 / 10 ^ 9) * turns i + 55000 / 2 ^ 40
          = (2 * 3141592653 * (places (Cert.ReferenceIdeal.lit0 i) : ℝ) + 55000 * 10 ^ 9) / (10 ^ 9 * 2 ^ 40) := by
        unfold turns
        field_simp
      rw [e, div_pow, le_div_iff₀ (by positivity)]
      have := mul_le_mul_of_nonneg_left hr (by positivity : 0 ≤ power i ^ 128)
      rw [mul_comm (_ ^ 128) (10000 ^ (i : ℕ)), ← mul_assoc, hp, one_mul] at this
      exact this
    have hle := (pow_le_pow_iff_left₀ hf.le (by positivity) (by norm_num)).mp hb
    nlinarith [Cert.Sine.lt_pi]
  · obtain ⟨hn0, hn⟩ := entries_not_large i
    obtain ⟨d, hdd⟩ := Nat.exists_eq_add_of_le hn0
    rw [hdd, Nat.add_sub_cancel_left] at hn
    have hr : (d : ℝ) ^ 128 * 10000 ^ (i : ℕ) ≤ ((10 ^ 9 * 2 ^ 40 : ℝ)) ^ 128 := by
      exact_mod_cast hn
    have hdr : 2 * 3141592654 * (places (Cert.ReferenceIdeal.lit0 i) : ℝ) = 55000 * 10 ^ 9 + d := by
      exact_mod_cast hdd
    have hb : (2 * (3141592654 / 10 ^ 9) * turns i - 55000 / 2 ^ 40) ^ 128 ≤ power i ^ 128 := by
      have e : 2 * (3141592654 / 10 ^ 9) * turns i - 55000 / 2 ^ 40 = (d : ℝ) / (10 ^ 9 * 2 ^ 40) := by
        unfold turns
        field_simp
        linarith
      rw [e, div_pow, div_le_iff₀ (by positivity)]
      have := mul_le_mul_of_nonneg_left hr (by positivity : 0 ≤ power i ^ 128)
      rw [mul_comm (_ ^ 128) (10000 ^ (i : ℕ)), ← mul_assoc, hp, one_mul] at this
      exact this
    have hle := le_of_pow_le_pow_left₀ (by norm_num) hf.le hb
    nlinarith [Cert.Sine.pi_lt]

end Cert.Table

end
-- ==== Proof.Near.lean ====
/-
  Arguments of size at most 1000: every element of the kernel's result is within 1/125 of the sine or cosine.
-/
module

public import proofs.«01_k».proof.Defs
public import proofs.«01_k».proof.Proof.Gen.Pre_in_range
public import proofs.«01_k».proof.Proof.Gen.Post_near_sine_and_cosine
public import proofs.«01_k».proof.Proof.Equal
public import proofs.«01_k».proof.Proof.Table

@[expose] public section

set_option maxRecDepth 16384

noncomputable section

open Idealize.ShloMosaic Idealize.ShloMosaic.TcCoe Idealize.SL.Sem

namespace Cert.Near

open Cert.Layout

/-! ## The distance from the nearest whole turn -/

/-- Rounding to the nearest integer moves a real by at most a half. -/
theorem round_near (t : ℝ) : |t - Ideal.roundHalfEven t| ≤ 1 / 2 := by
  have h0 := Int.floor_le t
  have h1 := Int.lt_floor_add_one t
  unfold Ideal.roundHalfEven
  rw [abs_le]
  dsimp only
  split_ifs <;> push_cast <;> constructor <;> linarith

/-- An integer of size at most 2000, as a real taken to 32 bits and back, is itself. -/
theorem fptosi_int (n : ℤ) (h0 : -2000 ≤ n) (h1 : n ≤ 2000) : (Ideal.fptosi 32 (((n : ℤ) : ℝ) : EReal)).toInt = n := by
  have hc : (if (0 : ℝ) ≤ (n : ℝ) then ⌊(n : ℝ)⌋ else ⌈(n : ℝ)⌉) = n := by
    rw [Int.floor_intCast, Int.ceil_intCast, ite_self]
  rw [Ideal.fptosi, Ideal.toIntClamped_coe, hc, min_eq_right (by norm_num; omega), max_eq_right (by norm_num; omega),
    BitVec.toInt_ofInt]
  rw [Int.bmod_eq_of_le (by norm_num; omega) (by norm_num; omega)]

/-- The distance the kernel takes of a real number of turns of size at most 1500. -/
theorem distance_real (t : ℝ) (h : |t| ≤ 1500) :
    Cert.Equal.distance (t : EReal) = ((t - Ideal.roundHalfEven t : ℝ) : EReal) := by
  have hr := abs_le.mp (round_near t)
  have ht := abs_le.mp h
  have h0 : (-2000 : ℤ) ≤ Ideal.roundHalfEven t := by
    have : ((-2000 : ℤ) : ℝ) ≤ (Ideal.roundHalfEven t : ℝ) := by push_cast; linarith [hr.1, hr.2, ht.1]
    exact_mod_cast this
  have h1 : Ideal.roundHalfEven t ≤ (2000 : ℤ) := by
    have : (Ideal.roundHalfEven t : ℝ) ≤ ((2000 : ℤ) : ℝ) := by push_cast; linarith [hr.1, hr.2, ht.2]
    exact_mod_cast this
  rw [Cert.Equal.distance, Ideal.liftRound_coe, fptosi_int _ h0 h1, EReal.coe_sub]

/-- The polynomial of a real. -/
theorem poly_real (u : ℝ) : Cert.Equal.poly (u : EReal) = ((Cert.Sine.poly u : ℝ) : EReal) := by
  rw [Cert.Equal.poly, Cert.Sine.poly]
  norm_cast

/-- The polynomial of the distance of `t` turns is near the sine of the angle. -/
theorem turns_sine (t : ℝ) : |Cert.Sine.poly (t - Ideal.roundHalfEven t) - Real.sin (2 * Real.pi * t)| ≤ 7858 / 10 ^ 6 := by
  have h := Cert.Sine.poly_near (round_near t)
  rwa [show 2 * Real.pi * (t - Ideal.roundHalfEven t) = 2 * Real.pi * t - (Ideal.roundHalfEven t : ℝ) * (2 * Real.pi) by ring,
    Real.sin_sub_int_mul_two_pi] at h

/-! ## One element -/

/-- What an element stands for: the sine of the argument times the frequency in an even column, its cosine in an odd one. -/
def wave (x : ℝ) (k : Fin 256) : ℝ :=
  if (k : Nat) % 2 = 0 then Real.sin (x * Cert.Table.power (freq k)) else Real.cos (x * Cert.Table.power (freq k))

/-- The part of a turn a column adds: none in an even one, a quarter in an odd one. -/
def shift (k : Fin 256) : ℝ := if (k : Nat) % 2 = 0 then 0 else 1 / 4

/-- The wave is one sine. -/
theorem wave_eq (x : ℝ) (k : Fin 256) : wave x k = Real.sin (x * Cert.Table.power (freq k) + 2 * Real.pi * shift k) := by
  unfold wave shift
  split_ifs
  · rw [mul_zero, add_zero]
  · rw [show 2 * Real.pi * (1 / 4) = Real.pi / 2 by ring, Real.sin_add_pi_div_two]

/-- An element of an argument of size at most 1000 is a real within 1/125 of its wave, with room to spare. -/
theorem element_near (x : ℝ) (k : Fin 256) (hx : |x| ≤ 1000) :
    ∃ y : ℝ, Cert.Equal.element (x : EReal) k = (y : EReal) ∧ |y - wave x k| ≤ 7909 / 10 ^ 6 := by
  have h0 := Cert.Table.turns_nonneg (freq k)
  have h1 := Cert.Table.turns_le_one (freq k)
  have hn := Cert.Table.turns_near (freq k)
  have ho : 0 ≤ shift k ∧ shift k ≤ 1 / 4 := by unfold shift; split_ifs <;> norm_num
  obtain ⟨t, ht⟩ : ∃ t : ℝ, t = x * Cert.Table.turns (freq k) + shift k := ⟨_, rfl⟩
  have htb : |t| ≤ 1500 := by
    rw [ht]
    refine (abs_add_le _ _).trans ?_
    rw [abs_mul, abs_of_nonneg h0, abs_of_nonneg ho.1]
    nlinarith [ho.2, abs_nonneg x]
  refine ⟨Cert.Sine.poly (t - Ideal.roundHalfEven t), ?_, ?_⟩
  · have e : ((x : ℝ) : EReal) * Ideal.ofBits .f32 (Cert.ReferenceIdeal.lit0 (freq k))
        + (if (k : Nat) % 2 = 0 then 0 else ((1 / 4 : ℝ) : EReal)) = ((t : ℝ) : EReal) := by
      rw [Cert.Table.turns_value, ht, EReal.coe_add, EReal.coe_mul]
      congr 1
      unfold shift
      split_ifs
      · rfl
      · rfl
    rw [Cert.Equal.element, e, distance_real t htb, poly_real]
  · have hs := abs_le.mp (turns_sine t)
    have hl := (Cert.Sine.abs_sin_sub_le (2 * Real.pi * t) (x * Cert.Table.power (freq k) + 2 * Real.pi * shift k)).trans
      (b := |2 * Real.pi * t - (x * Cert.Table.power (freq k) + 2 * Real.pi * shift k)|) (c := 1000 * (55000 / 2 ^ 40)) (by
        rw [ht, show 2 * Real.pi * (x * Cert.Table.turns (freq k) + shift k)
            - (x * Cert.Table.power (freq k) + 2 * Real.pi * shift k)
            = x * (2 * Real.pi * Cert.Table.turns (freq k) - Cert.Table.power (freq k)) by ring, abs_mul]
        exact mul_le_mul hx hn (abs_nonneg _) (by norm_num))
    have hl' := abs_le.mp hl
    rw [wave_eq, abs_le]
    norm_num at hs hl' ⊢
    constructor <;> linarith [hs.1, hs.2, hl'.1, hl'.2]

/-! ## The precondition -/

/-- A thousand. -/
theorem thousand : Ideal.ofBits .f32 0x447A0000#32 = ((1000 : ℝ) : EReal) := by
  simp [Ideal.ofBits, Ideal.ieee, -EReal.coe_mul, -EReal.coe_neg]; norm_num
/-- Minus two. -/
theorem minus_two : Ideal.ofBits .f32 0xC0000000#32 = ((-2 : ℝ) : EReal) := by
  simp [Ideal.ofBits, Ideal.ieee, -EReal.coe_mul, -EReal.coe_neg]; norm_num
/-- The number of columns. -/
theorem columns : Ideal.ofBits .f32 0x43800000#32 = ((256 : ℝ) : EReal) := by
  simp [Ideal.ofBits, Ideal.ieee, -EReal.coe_mul, -EReal.coe_neg]; norm_num
/-- Ten thousand. -/
theorem ten_thousand : Ideal.ofBits .f32 0x461C4000#32 = ((10000 : ℝ) : EReal) := by
  simp [Ideal.ofBits, Ideal.ieee, -EReal.coe_mul, -EReal.coe_neg]; norm_num
/-- The float nearest 0.008. -/
theorem tolerance : Ideal.ofBits .f32 0x3C03126F#32 = ((8589935 / 2 ^ 30 : ℝ) : EReal) := by
  simp [Ideal.ofBits, Ideal.ieee, -EReal.coe_mul, -EReal.coe_neg]; norm_num

/-- A bit that says yes says what was asked. -/
theorem of_bit {p : Prop} [Decidable p] (h : BitVec.ofBool (decide p) = 1#1) : p := by
  by_contra hp
  simp [hp] at h

/-- An extended real whose size is at most 1000 is a real of that kind. -/
theorem real_of_size {x : EReal} (h : max x (-x) ≤ ((1000 : ℝ) : EReal)) : ∃ r : ℝ, x = (r : EReal) ∧ |r| ≤ 1000 := by
  induction x with
  | bot => simp at h
  | top => simp at h
  | coe r =>
    refine ⟨r, rfl, ?_⟩
    have h1 := (le_max_left _ _).trans h
    have h2 := (le_max_right _ _).trans h
    rw [← EReal.coe_neg] at h2
    rw [abs_le]
    constructor
    · linarith [EReal.coe_le_coe_iff.mp h2]
    · exact EReal.coe_le_coe_iff.mp h1

/-- Arguments that meet the precondition are reals of size at most 1000. -/
theorem argument_real (x : FVec Ideal Args .f32) (h : Cert.Pre_in_range.fn (F := Ideal) x = fun _ => 1#1)
    (r : Fin 1048576) : ∃ y : ℝ, x (ix1 r) = (y : EReal) ∧ |y| ≤ 1000 := by
  have hb : BitVec.ofBool (decide (max (x (ix1 r)) (-(x (ix1 r))) ≤ Ideal.ofBits .f32 0x447A0000#32)) = 1#1 := congrFun h (ix1 r)
  have hle := of_bit hb
  rw [thousand] at hle
  exact real_of_size hle

/-! ## The postcondition -/

/-- The frequency the postcondition computes for column `i`. -/
theorem power_value (i : Fin 128) : Ideal.pow (Ideal.ofBits .f32 0x461C4000#32)
    (Ideal.div (Ideal.ofBits .f32 0xC0000000#32 * (((BitVec.ofNat 32 (i : Nat)).toInt : ℝ) : EReal)) (Ideal.ofBits .f32 0x43800000#32))
      = ((Cert.Table.power i : ℝ) : EReal) := by
  have hi : ((BitVec.ofNat 32 (i : Nat)).toInt) = ((i : ℕ) : ℤ) := by
    have := i.isLt
    rw [BitVec.toInt_ofNat', Int.bmod_eq_of_le (by omega) (by omega)]
  rw [minus_two, columns, ten_thousand, hi, Ideal.div_coe (by norm_num), ← EReal.coe_mul, ← EReal.coe_mul, Ideal.pow_coe_coe,
    Cert.Table.power]
  congr 2
  push_cast
  ring

/-- The array the postcondition compares with, from the frequencies and the arguments. -/
theorem post_eq (x : FVec Ideal Args .f32) (y : FVec Ideal Full .f32) (r : Fin 1048576) (k : Fin 256) :
    Cert.Post_near_sine_and_cosine.fn (F := Ideal) x y (ix2 r k)
      = BitVec.ofBool (decide (max (y (ix2 r k) - (if (k : Nat) % 2 = 0 then Ideal.sin (x (ix1 r) * ((Cert.Table.power (freq k) : ℝ) : EReal))
            else Ideal.cos (x (ix1 r) * ((Cert.Table.power (freq k) : ℝ) : EReal))))
          (-(y (ix2 r k) - (if (k : Nat) % 2 = 0 then Ideal.sin (x (ix1 r) * ((Cert.Table.power (freq k) : ℝ) : EReal))
            else Ideal.cos (x (ix1 r) * ((Cert.Table.power (freq k) : ℝ) : EReal))))) ≤ Ideal.ofBits .f32 0x3C03126F#32)) := by
  obtain ⟨f, hf⟩ : ∃ f : Freqs.Idx → EReal, f = fun j : Freqs.Idx => Ideal.pow (Ideal.ofBits .f32 0x461C4000#32)
      (Ideal.div (Ideal.ofBits .f32 0xC0000000#32 * (((BitVec.ofNat 32 (j 0 : Nat)).toInt : ℝ) : EReal)) (Ideal.ofBits .f32 0x43800000#32)) :=
    ⟨_, rfl⟩
  have hfk : f (ix1 (freq k)) = ((Cert.Table.power (freq k) : ℝ) : EReal) := by
    rw [hf]
    exact power_value (freq k)
  obtain ⟨a, ha⟩ : ∃ a : Half.Idx → EReal, a = fun j => broadcastInDim Half ![0, 1]
        Cert.Post_near_sine_and_cosine.Facts.bcast_S1048576x1_S1048576x128_0_1
        (broadcastInDim (⟨2, ![1048576, 1]⟩ : Shape) ![0] Cert.Post_near_sine_and_cosine.Facts.bcast_S1048576_S1048576x1_0 x) j
      * broadcastInDim Half ![0, 1] Cert.Post_near_sine_and_cosine.Facts.bcast_S1x128_S1048576x128_0_1
        (broadcastInDim (⟨2, ![1, 128]⟩ : Shape) ![1] Cert.Post_near_sine_and_cosine.Facts.bcast_S128_S1x128_1 f) j := ⟨_, rfl⟩
  have hak : a (ix2 r (freq k)) = x (ix1 r) * ((Cert.Table.power (freq k) : ℝ) : EReal) := by
    rw [ha, ← hfk]
    exact congrArg₂ (fun p q : EReal => p * q) (spread_rows_apply x _ _ r (freq k)) (spread_columns_apply f _ _ r (freq k))
  have hw := interleave_apply (fun j => Ideal.sin (a j)) (fun j => Ideal.cos (a j))
    Cert.Post_near_sine_and_cosine.Facts.bcast_S1048576x128_S1048576x128x1_0_1
    Cert.Post_near_sine_and_cosine.Facts.bcast_S1048576x128_S1048576x128x1_0_1
    Cert.Post_near_sine_and_cosine.Facts.concatenates_S1048576x128x1_S1048576x128x1_S1048576x128x2_d2
    Cert.Post_near_sine_and_cosine.Facts.shapeCasts_S1048576x128x2_S1048576x256 r k
  rw [hak] at hw
  rw [← hw, ha, hf]
  rfl

/-- An array whose element is within 0.007909 of the wave meets the postcondition there. -/
theorem post_holds (x : FVec Ideal Args .f32) (y : FVec Ideal Full .f32) (r : Fin 1048576) (k : Fin 256) (a b : ℝ)
    (hx : x (ix1 r) = (a : EReal)) (hy : y (ix2 r k) = (b : EReal)) (h : |b - wave a k| ≤ 7909 / 10 ^ 6) :
    Cert.Post_near_sine_and_cosine.fn (F := Ideal) x y (ix2 r k) = 1#1 := by
  have hw : (if (k : Nat) % 2 = 0 then Ideal.sin ((a : EReal) * ((Cert.Table.power (freq k) : ℝ) : EReal))
      else Ideal.cos ((a : EReal) * ((Cert.Table.power (freq k) : ℝ) : EReal))) = ((wave a k : ℝ) : EReal) := by
    rw [← EReal.coe_mul, wave]
    split_ifs <;> rfl
  have ht : (7909 / 10 ^ 6 : ℝ) ≤ 8589935 / 2 ^ 30 := by norm_num
  have hb := abs_le.mp (h.trans ht)
  have hle : max ((b : EReal) - ((wave a k : ℝ) : EReal)) (-((b : EReal) - ((wave a k : ℝ) : EReal)))
      ≤ ((8589935 / 2 ^ 30 : ℝ) : EReal) := by
    rw [← EReal.coe_sub, ← EReal.coe_neg]
    exact max_le (EReal.coe_le_coe_iff.mpr hb.2) (EReal.coe_le_coe_iff.mpr (by linarith [hb.1]))
  rw [post_eq, hx, hy, hw, tolerance, decide_eq_true hle]
  rfl

/-- The kernel's result meets the postcondition when its arguments meet the precondition. -/
theorem result_near (m : (ℓ : Loc Cert.KernelIdeal.nD Cert.KernelIdeal.τ Cert.KernelIdeal.sig) → Buf (Elt Ideal) ℓ)
    (c : Dev Cert.KernelIdeal.nD)
    (v : Buf (Elt Ideal) ((c.tc : Thread Cert.KernelIdeal.nD Cert.KernelIdeal.τ).loc Cert.KernelIdeal.main_v2))
    (hv : v = Cert.KernelIdeal.RefValue.result (F := Ideal) m c)
    (h : Cert.Pre_in_range.fn (F := Ideal) (m ((c.tc : Thread Cert.KernelIdeal.nD Cert.KernelIdeal.τ).loc Cert.KernelIdeal.main_arg0))
      = fun _ => 1#1) :
    Cert.Post_near_sine_and_cosine.fn (F := Ideal)
      (m ((c.tc : Thread Cert.KernelIdeal.nD Cert.KernelIdeal.τ).loc Cert.KernelIdeal.main_arg0))
      v = fun _ => 1#1 := by
  rw [hv]
  funext i
  obtain ⟨a, ha, hs⟩ := argument_real _ h (i 0)
  obtain ⟨b, hb, hn⟩ := element_near a (i 1) hs
  have hy : Cert.KernelIdeal.RefValue.result (F := Ideal) m c (ix2 (i 0) (i 1)) = (b : EReal) :=
    (Cert.Equal.kernel_apply m c (i 0) (i 1)).trans ((congrArg (fun x : EReal => Cert.Equal.element x (i 1)) ha).trans hb)
  rw [eq_ix2 i]
  exact post_holds _ _ (i 0) (i 1) a b ha hy hn

end Cert.Near

end
-- ==== Proof.lean ====
/-
  The claims about the rotary embedding kernel: its runs end with every counter at zero and the argument unchanged, the
  program over the extended reals is the printed one, there the kernel's result is the reference's, and for arguments of
  size at most 1000 it is near the sine and the cosine.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.Post_near_sine_and_cosine
public import proofs.«01_k».proof.Proof.Equal
public import proofs.«01_k».proof.Proof.Near
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof

/-- The kernel's runs end quietly, as printed. -/
theorem quiet_kernel : Cert.quiescent_Kernel (hKernel := Cert.Kernel.Gen.facts) :=
  fun m g _ => Cert.Kernel.Gen.frame (F := Bits) m g

/-- The kernel's runs end quietly over the extended reals. -/
theorem quiet_ideal : Cert.quiescent_KernelIdeal (hKernelIdeal := Cert.KernelIdeal.Gen.facts) :=
  fun m g _ => Cert.KernelIdeal.Gen.frame (F := Ideal) m g

/-- The reference's runs end quietly. -/
theorem quiet_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Over the extended reals the kernel computes the reference. -/
theorem equal : Cert.algebraic_KernelIdeal_ReferenceIdeal (hKernelIdeal := Cert.KernelIdeal.Gen.facts)
    (hReferenceIdeal := Cert.ReferenceIdeal.Gen.facts) :=
  fun m g m' g' _ h => ⟨fun c => Cert.KernelIdeal.RefValue.result (F := Ideal) m c,
    Cert.KernelIdeal.RefValue.run_result (F := Ideal) m g,
    (θ_run Cert.ReferenceIdeal.defs _ _).mono
      (fun _ hr c => ⟨(hr c).1.trans (Cert.Equal.result_eq m m' c (h c)), (hr c).2⟩)
      (Cert.ReferenceIdeal.Value.run (F := Ideal) m' g')⟩

/-- With arguments of size at most 1000 the kernel's runs end as quietly. -/
theorem quiet_in_range : Cert.quiescent_KernelIdeal_pre_in_range (hKernelIdeal := Cert.KernelIdeal.Gen.facts)
    (hPre_in_range := Cert.Pre_in_range.Gen.facts) :=
  fun m g _ => Cert.KernelIdeal.Gen.frame (F := Ideal) m g

/-- With such arguments every element of its result is near the sine or the cosine. -/
theorem near : Cert.holds_KernelIdeal_near_sine_and_cosine_pre_in_range (hKernelIdeal := Cert.KernelIdeal.Gen.facts)
    (hPre_in_range := Cert.Pre_in_range.Gen.facts) (hPost_near_sine_and_cosine := Cert.Post_near_sine_and_cosine.Gen.facts) :=
  fun m g h => (θ_run Cert.KernelIdeal.defs _ _).mono
    (fun _ hr c => ⟨(hr c).2, Cert.Near.result_near m c _ (hr c).1 (h c)⟩)
    (Cert.KernelIdeal.RefValue.run_result (F := Ideal) m g)

/-- All the claims. -/
theorem claim : Cert.Claim := ⟨Cert.Kernel.Gen.facts, Cert.KernelIdeal.Gen.facts, Cert.ReferenceIdeal.Gen.facts,
  Cert.Pre_in_range.Gen.facts, Cert.Post_near_sine_and_cosine.Gen.facts,
  quiet_kernel, quiet_ideal, quiet_in_range, quiet_reference, trivial, equal, near⟩

end Cert.Proof

end
